-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutReferenceIdeal (m : (ℓ : Loc Cert.MixOutReferenceIdeal.nD Cert.MixOutReferenceIdeal.τ Cert.MixOutReferenceIdeal.sig) → Buf (Elt Ideal) ℓ) : Prop :=
  True

def Pre_AdaLn (m : (ℓ : Loc Cert.AdaLn.nD Cert.AdaLn.τ Cert.AdaLn.sig) → Buf (Elt Bits) ℓ) : Prop :=
  True

def Pre_AdaLnIdeal (m : (ℓ : Loc Cert.AdaLnIdeal.nD Cert.AdaLnIdeal.τ Cert.AdaLnIdeal.sig) → Buf (Elt Ideal) ℓ) : Prop :=
  True

def Pre_AdaLnReferenceIdeal (m : (ℓ : Loc Cert.AdaLnReferenceIdeal.nD Cert.AdaLnReferenceIdeal.τ Cert.AdaLnReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3)
      ∧ r.2.mem ((c.tc : Thread Cert.InProjReferenceIdeal.nD Cert.InProjReferenceIdeal.τ).loc Cert.InProjReferenceIdeal.main_arg4) = m ((c.tc : Thread Cert.InProjReferenceIdeal.nD Cert.InProjReferenceIdeal.τ).loc Cert.InProjReferenceIdeal.main_arg4)
      ∧ r.2.mem ((c.tc : Thread Cert.InProjReferenceIdeal.nD Cert.InProjReferenceIdeal.τ).loc Cert.InProjReferenceIdeal.main_arg5) = m ((c.tc : Thread Cert.InProjReferenceIdeal.nD Cert.InProjReferenceIdeal.τ).loc Cert.InProjReferenceIdeal.main_arg5))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5)
      ∧ r.2.mem ((c.tc : Thread Cert.MixOut.nD Cert.MixOut.τ).loc Cert.MixOut.main_arg6) = m ((c.tc : Thread Cert.MixOut.nD Cert.MixOut.τ).loc Cert.MixOut.main_arg6)
      ∧ r.2.mem ((c.tc : Thread Cert.MixOut.nD Cert.MixOut.τ).loc Cert.MixOut.main_arg7) = m ((c.tc : Thread Cert.MixOut.nD Cert.MixOut.τ).loc Cert.MixOut.main_arg7))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
      ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7))
      ∧ r.2.sem = fun _ => 0)

def quiescent_MixOutReferenceIdeal [hMixOutReferenceIdeal : Cert.MixOutReferenceIdeal.Facts] : Prop :=
  ∀ (m : (ℓ : Loc Cert.MixOutReferenceIdeal.nD Cert.MixOutReferenceIdeal.τ Cert.MixOutReferenceIdeal.sig) → Buf (Elt Ideal) ℓ) (g : Dev Cert.MixOutReferenceIdeal.nD → PrngReg), Pre_MixOutReferenceIdeal m →
    θ_run (Cert.MixOutReferenceIdeal.defs (F := Ideal)) (onTc (τ := Cert.MixOutReferenceIdeal.τ) (Cert.MixOutReferenceIdeal.main (F := Ideal))) ⟨m, fun _ => 0, g⟩ (fun r => (∀ c : Dev Cert.MixOutReferenceIdeal.nD,
      r.2.mem ((c.tc : Thread Cert.MixOutReferenceIdeal.nD Cert.MixOutReferenceIdeal.τ).loc Cert.MixOutReferenceIdeal.main_arg0) = m ((c.tc : Thread Cert.MixOutReferenceIdeal.nD Cert.MixOutReferenceIdeal.τ).loc Cert.MixOutReferenceIdeal.main_arg0)
      ∧ r.2.mem ((c.tc : Thread Cert.MixOutReferenceIdeal.nD Cert.MixOutReferenceIdeal.τ).loc Cert.MixOutReferenceIdeal.main_arg1) = m ((c.tc : Thread Cert.MixOutReferenceIdeal.nD Cert.MixOutReferenceIdeal.τ).loc Cert.MixOutReferenceIdeal.main_arg1)
      ∧ r.2.mem ((c.tc : Thread Cert.MixOutReferenceIdeal.nD Cert.MixOutReferenceIdeal.τ).loc Cert.MixOutReferenceIdeal.main_arg2) = m ((c.tc : Thread Cert.MixOutReferenceIdeal.nD Cert.MixOutReferenceIdeal.τ).loc Cert.MixOutReferenceIdeal.main_arg2)
      ∧ r.2.mem ((c.tc : Thread Cert.MixOutReferenceIdeal.nD Cert.MixOutReferenceIdeal.τ).loc Cert.MixOutReferenceIdeal.main_arg3) = m ((c.tc : Thread Cert.MixOutReferenceIdeal.nD Cert.MixOutReferenceIdeal.τ).loc Cert.MixOutReferenceIdeal.main_arg3)
      ∧ r.2.mem ((c.tc : Thread Cert.MixOutReferenceIdeal.nD Cert.MixOutReferenceIdeal.τ).loc Cert.MixOutReferenceIdeal.main_arg4) = m ((c.tc : Thread Cert.MixOutReferenceIdeal.nD Cert.MixOutReferenceIdeal.τ).loc Cert.MixOutReferenceIdeal.main_arg4)
      ∧ r.2.mem ((c.tc : Thread Cert.MixOutReferenceIdeal.nD Cert.MixOutReferenceIdeal.τ).loc Cert.MixOutReferenceIdeal.main_arg5) = m ((c.tc : Thread Cert.MixOutReferenceIdeal.nD Cert.MixOutReferenceIdeal.τ).loc Cert.MixOutReferenceIdeal.main_arg5)
      ∧ r.2.mem ((c.tc : Thread Cert.MixOutReferenceIdeal.nD Cert.MixOutReferenceIdeal.τ).loc Cert.MixOutReferenceIdeal.main_arg6) = m ((c.tc : Thread Cert.MixOutReferenceIdeal.nD Cert.MixOutReferenceIdeal.τ).loc Cert.MixOutReferenceIdeal.main_arg6)
      ∧ r.2.mem ((c.tc : Thread Cert.MixOutReferenceIdeal.nD Cert.MixOutReferenceIdeal.τ).loc Cert.MixOutReferenceIdeal.main_arg7) = m ((c.tc : Thread Cert.MixOutReferenceIdeal.nD Cert.MixOutReferenceIdeal.τ).loc Cert.MixOutReferenceIdeal.main_arg7))
      ∧ r.2.sem = fun _ => 0)

def quiescent_AdaLn [hAdaLn : Cert.AdaLn.Facts] : Prop :=
  ∀ (m : (ℓ : Loc Cert.AdaLn.nD Cert.AdaLn.τ Cert.AdaLn.sig) → Buf (Elt Bits) ℓ) (g : Dev Cert.AdaLn.nD → PrngReg), Pre_AdaLn m →
    θ_run (Cert.AdaLn.defs (F := Bits)) (onTc (τ := Cert.AdaLn.τ) (Cert.AdaLn.main (F := Bits))) ⟨m, fun _ => 0, g⟩ (fun r => (∀ c : Dev Cert.AdaLn.nD,
      r.2.mem ((c.tc : Thread Cert.AdaLn.nD Cert.AdaLn.τ).loc Cert.AdaLn.main_arg0) = m ((c.tc : Thread Cert.AdaLn.nD Cert.AdaLn.τ).loc Cert.AdaLn.main_arg0)
      ∧ r.2.mem ((c.tc : Thread Cert.AdaLn.nD Cert.AdaLn.τ).loc Cert.AdaLn.main_arg1) = m ((c.tc : Thread Cert.AdaLn.nD Cert.AdaLn.τ).loc Cert.AdaLn.main_arg1)
      ∧ r.2.mem ((c.tc : Thread Cert.AdaLn.nD Cert.AdaLn.τ).loc Cert.AdaLn.main_arg2) = m ((c.tc : Thread Cert.AdaLn.nD Cert.AdaLn.τ).loc Cert.AdaLn.main_arg2))
      ∧ r.2.sem = fun _ => 0)

def quiescent_AdaLnIdeal [hAdaLnIdeal : Cert.AdaLnIdeal.Facts] : Prop :=
  ∀ (m : (ℓ : Loc Cert.AdaLnIdeal.nD Cert.AdaLnIdeal.τ Cert.AdaLnIdeal.sig) → Buf (Elt Ideal) ℓ) (g : Dev Cert.AdaLnIdeal.nD → PrngReg), Pre_AdaLnIdeal m →
    θ_run (Cert.AdaLnIdeal.defs (F := Ideal)) (onTc (τ := Cert.AdaLnIdeal.τ) (Cert.AdaLnIdeal.main (F := Ideal))) ⟨m, fun _ => 0, g⟩ (fun r => (∀ c : Dev Cert.AdaLnIdeal.nD,
      r.2.mem ((c.tc : Thread Cert.AdaLnIdeal.nD Cert.AdaLnIdeal.τ).loc Cert.AdaLnIdeal.main_arg0) = m ((c.tc : Thread Cert.AdaLnIdeal.nD Cert.AdaLnIdeal.τ).loc Cert.AdaLnIdeal.main_arg0)
      ∧ r.2.mem ((c.tc : Thread Cert.AdaLnIdeal.nD Cert.AdaLnIdeal.τ).loc Cert.AdaLnIdeal.main_arg1) = m ((c.tc : Thread Cert.AdaLnIdeal.nD Cert.AdaLnIdeal.τ).loc Cert.AdaLnIdeal.main_arg1)
      ∧ r.2.mem ((c.tc : Thread Cert.AdaLnIdeal.nD Cert.AdaLnIdeal.τ).loc Cert.AdaLnIdeal.main_arg2) = m ((c.tc : Thread Cert.AdaLnIdeal.nD Cert.AdaLnIdeal.τ).loc Cert.AdaLnIdeal.main_arg2))
      ∧ r.2.sem = fun _ => 0)

def quiescent_AdaLnReferenceIdeal [hAdaLnReferenceIdeal : Cert.AdaLnReferenceIdeal.Facts] : Prop :=
  ∀ (m : (ℓ : Loc Cert.AdaLnReferenceIdeal.nD Cert.AdaLnReferenceIdeal.τ Cert.AdaLnReferenceIdeal.sig) → Buf (Elt Ideal) ℓ) (g : Dev Cert.AdaLnReferenceIdeal.nD → PrngReg), Pre_AdaLnReferenceIdeal m →
    θ_run (Cert.AdaLnReferenceIdeal.defs (F := Ideal)) (onTc (τ := Cert.AdaLnReferenceIdeal.τ) (Cert.AdaLnReferenceIdeal.main (F := Ideal))) ⟨m, fun _ => 0, g⟩ (fun r => (∀ c : Dev Cert.AdaLnReferenceIdeal.nD,
      r.2.mem ((c.tc : Thread Cert.AdaLnReferenceIdeal.nD Cert.AdaLnReferenceIdeal.τ).loc Cert.AdaLnReferenceIdeal.main_arg0) = m ((c.tc : Thread Cert.AdaLnReferenceIdeal.nD Cert.AdaLnReferenceIdeal.τ).loc Cert.AdaLnReferenceIdeal.main_arg0)
      ∧ r.2.mem ((c.tc : Thread Cert.AdaLnReferenceIdeal.nD Cert.AdaLnReferenceIdeal.τ).loc Cert.AdaLnReferenceIdeal.main_arg1) = m ((c.tc : Thread Cert.AdaLnReferenceIdeal.nD Cert.AdaLnReferenceIdeal.τ).loc Cert.AdaLnReferenceIdeal.main_arg1)
      ∧ r.2.mem ((c.tc : Thread Cert.AdaLnReferenceIdeal.nD Cert.AdaLnReferenceIdeal.τ).loc Cert.AdaLnReferenceIdeal.main_arg2) = m ((c.tc : Thread Cert.AdaLnReferenceIdeal.nD Cert.AdaLnReferenceIdeal.τ).loc Cert.AdaLnReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)
      ∧ m' ((c.tc : Thread Cert.InProjReferenceIdeal.nD Cert.InProjReferenceIdeal.τ).loc Cert.InProjReferenceIdeal.main_arg3) = m ((c.tc : Thread Cert.InProjIdeal.nD Cert.InProjIdeal.τ).loc Cert.InProjIdeal.main_arg3)
      ∧ m' ((c.tc : Thread Cert.InProjReferenceIdeal.nD Cert.InProjReferenceIdeal.τ).loc Cert.InProjReferenceIdeal.main_arg4) = m ((c.tc : Thread Cert.InProjIdeal.nD Cert.InProjIdeal.τ).loc Cert.InProjIdeal.main_arg4)
      ∧ m' ((c.tc : Thread Cert.InProjReferenceIdeal.nD Cert.InProjReferenceIdeal.τ).loc Cert.InProjReferenceIdeal.main_arg5) = m ((c.tc : Thread Cert.InProjIdeal.nD Cert.InProjIdeal.τ).loc Cert.InProjIdeal.main_arg5)) →
    ∃ (v0 : (c : Dev Cert.InProjIdeal.nD) → Buf (Elt Ideal) ((c.tc : Thread Cert.InProjIdeal.nD Cert.InProjIdeal.τ).loc Cert.InProjIdeal.main_v16_0)) (v1 : (c : Dev Cert.InProjIdeal.nD) → Buf (Elt Ideal) ((c.tc : Thread Cert.InProjIdeal.nD Cert.InProjIdeal.τ).loc Cert.InProjIdeal.main_v16_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v16_0) = v0 c
          ∧ r.2.mem ((c.tc : Thread Cert.InProjIdeal.nD Cert.InProjIdeal.τ).loc Cert.InProjIdeal.main_v16_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v70) = v0 c
          ∧ r.2.mem ((c.tc : Thread Cert.InProjReferenceIdeal.nD Cert.InProjReferenceIdeal.τ).loc Cert.InProjReferenceIdeal.main_v71) = v1 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2)
          ∧ r.2.mem ((c.tc : Thread Cert.InProjReferenceIdeal.nD Cert.InProjReferenceIdeal.τ).loc Cert.InProjReferenceIdeal.main_arg3) = m' ((c.tc : Thread Cert.InProjReferenceIdeal.nD Cert.InProjReferenceIdeal.τ).loc Cert.InProjReferenceIdeal.main_arg3)
          ∧ r.2.mem ((c.tc : Thread Cert.InProjReferenceIdeal.nD Cert.InProjReferenceIdeal.τ).loc Cert.InProjReferenceIdeal.main_arg4) = m' ((c.tc : Thread Cert.InProjReferenceIdeal.nD Cert.InProjReferenceIdeal.τ).loc Cert.InProjReferenceIdeal.main_arg4)
          ∧ r.2.mem ((c.tc : Thread Cert.InProjReferenceIdeal.nD Cert.InProjReferenceIdeal.τ).loc Cert.InProjReferenceIdeal.main_arg5) = m' ((c.tc : Thread Cert.InProjReferenceIdeal.nD Cert.InProjReferenceIdeal.τ).loc Cert.InProjReferenceIdeal.main_arg5))

def preserves_MixOut_MixOutIdeal : Prop :=
  True

def algebraic_MixOutIdeal_MixOutReferenceIdeal [hMixOutIdeal : Cert.MixOutIdeal.Facts] [hMixOutReferenceIdeal : Cert.MixOutReferenceIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutReferenceIdeal.nD Cert.MixOutReferenceIdeal.τ Cert.MixOutReferenceIdeal.sig) → Buf (Elt Ideal) ℓ) (g' : Dev Cert.MixOutReferenceIdeal.nD → PrngReg), Pre_MixOutIdeal m →
    (∀ c : Dev Cert.MixOutIdeal.nD,
      m' ((c.tc : Thread Cert.MixOutReferenceIdeal.nD Cert.MixOutReferenceIdeal.τ).loc Cert.MixOutReferenceIdeal.main_arg0) = m ((c.tc : Thread Cert.MixOutIdeal.nD Cert.MixOutIdeal.τ).loc Cert.MixOutIdeal.main_arg0)
      ∧ m' ((c.tc : Thread Cert.MixOutReferenceIdeal.nD Cert.MixOutReferenceIdeal.τ).loc Cert.MixOutReferenceIdeal.main_arg1) = m ((c.tc : Thread Cert.MixOutIdeal.nD Cert.MixOutIdeal.τ).loc Cert.MixOutIdeal.main_arg1)
      ∧ m' ((c.tc : Thread Cert.MixOutReferenceIdeal.nD Cert.MixOutReferenceIdeal.τ).loc Cert.MixOutReferenceIdeal.main_arg2) = m ((c.tc : Thread Cert.MixOutIdeal.nD Cert.MixOutIdeal.τ).loc Cert.MixOutIdeal.main_arg2)
      ∧ m' ((c.tc : Thread Cert.MixOutReferenceIdeal.nD Cert.MixOutReferenceIdeal.τ).loc Cert.MixOutReferenceIdeal.main_arg3) = m ((c.tc : Thread Cert.MixOutIdeal.nD Cert.MixOutIdeal.τ).loc Cert.MixOutIdeal.main_arg3)
      ∧ m' ((c.tc : Thread Cert.MixOutReferenceIdeal.nD Cert.MixOutReferenceIdeal.τ).loc Cert.MixOutReferenceIdeal.main_arg4) = m ((c.tc : Thread Cert.MixOutIdeal.nD Cert.MixOutIdeal.τ).loc Cert.MixOutIdeal.main_arg4)
      ∧ m' ((c.tc : Thread Cert.MixOutReferenceIdeal.nD Cert.MixOutReferenceIdeal.τ).loc Cert.MixOutReferenceIdeal.main_arg5) = m ((c.tc : Thread Cert.MixOutIdeal.nD Cert.MixOutIdeal.τ).loc Cert.MixOutIdeal.main_arg5)
      ∧ m' ((c.tc : Thread Cert.MixOutReferenceIdeal.nD Cert.MixOutReferenceIdeal.τ).loc Cert.MixOutReferenceIdeal.main_arg6) = m ((c.tc : Thread Cert.MixOutIdeal.nD Cert.MixOutIdeal.τ).loc Cert.MixOutIdeal.main_arg6)
      ∧ m' ((c.tc : Thread Cert.MixOutReferenceIdeal.nD Cert.MixOutReferenceIdeal.τ).loc Cert.MixOutReferenceIdeal.main_arg7) = m ((c.tc : Thread Cert.MixOutIdeal.nD Cert.MixOutIdeal.τ).loc Cert.MixOutIdeal.main_arg7)) →
    ∃ (v0 : (c : Dev Cert.MixOutIdeal.nD) → Buf (Elt Ideal) ((c.tc : Thread Cert.MixOutIdeal.nD Cert.MixOutIdeal.τ).loc Cert.MixOutIdeal.main_v10_0)) (v1 : (c : Dev Cert.MixOutIdeal.nD) → Buf (Elt Ideal) ((c.tc : Thread Cert.MixOutIdeal.nD Cert.MixOutIdeal.τ).loc Cert.MixOutIdeal.main_v10_1)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v10_0) = v0 c
          ∧ r.2.mem ((c.tc : Thread Cert.MixOutIdeal.nD Cert.MixOutIdeal.τ).loc Cert.MixOutIdeal.main_v10_1) = v1 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
          ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
          ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7))
      ∧ θ_run (Cert.MixOutReferenceIdeal.defs (F := Ideal)) (onTc (τ := Cert.MixOutReferenceIdeal.τ) (Cert.MixOutReferenceIdeal.main (F := Ideal))) ⟨m', fun _ => 0, g'⟩ (fun r => ∀ c : Dev Cert.MixOutReferenceIdeal.nD,
          r.2.mem ((c.tc : Thread Cert.MixOutReferenceIdeal.nD Cert.MixOutReferenceIdeal.τ).loc Cert.MixOutReferenceIdeal.main_v64) = v0 c
          ∧ r.2.mem ((c.tc : Thread Cert.MixOutReferenceIdeal.nD Cert.MixOutReferenceIdeal.τ).loc Cert.MixOutReferenceIdeal.main_v66) = v1 c
          ∧ r.2.mem ((c.tc : Thread Cert.MixOutReferenceIdeal.nD Cert.MixOutReferenceIdeal.τ).loc Cert.MixOutReferenceIdeal.main_arg0) = m' ((c.tc : Thread Cert.MixOutReferenceIdeal.nD Cert.MixOutReferenceIdeal.τ).loc Cert.MixOutReferenceIdeal.main_arg0)
          ∧ r.2.mem ((c.tc : Thread Cert.MixOutReferenceIdeal.nD Cert.MixOutReferenceIdeal.τ).loc Cert.MixOutReferenceIdeal.main_arg1) = m' ((c.tc : Thread Cert.MixOutReferenceIdeal.nD Cert.MixOutReferenceIdeal.τ).loc Cert.MixOutReferenceIdeal.main_arg1)
          ∧ r.2.mem ((c.tc : Thread Cert.MixOutReferenceIdeal.nD Cert.MixOutReferenceIdeal.τ).loc Cert.MixOutReferenceIdeal.main_arg2) = m' ((c.tc : Thread Cert.MixOutReferenceIdeal.nD Cert.MixOutReferenceIdeal.τ).loc Cert.MixOutReferenceIdeal.main_arg2)
          ∧ r.2.mem ((c.tc : Thread Cert.MixOutReferenceIdeal.nD Cert.MixOutReferenceIdeal.τ).loc Cert.MixOutReferenceIdeal.main_arg3) = m' ((c.tc : Thread Cert.MixOutReferenceIdeal.nD Cert.MixOutReferenceIdeal.τ).loc Cert.MixOutReferenceIdeal.main_arg3)
          ∧ r.2.mem ((c.tc : Thread Cert.MixOutReferenceIdeal.nD Cert.MixOutReferenceIdeal.τ).loc Cert.MixOutReferenceIdeal.main_arg4) = m' ((c.tc : Thread Cert.MixOutReferenceIdeal.nD Cert.MixOutReferenceIdeal.τ).loc Cert.MixOutReferenceIdeal.main_arg4)
          ∧ r.2.mem ((c.tc : Thread Cert.MixOutReferenceIdeal.nD Cert.MixOutReferenceIdeal.τ).loc Cert.MixOutReferenceIdeal.main_arg5) = m' ((c.tc : Thread Cert.MixOutReferenceIdeal.nD Cert.MixOutReferenceIdeal.τ).loc Cert.MixOutReferenceIdeal.main_arg5)
          ∧ r.2.mem ((c.tc : Thread Cert.MixOutReferenceIdeal.nD Cert.MixOutReferenceIdeal.τ).loc Cert.MixOutReferenceIdeal.main_arg6) = m' ((c.tc : Thread Cert.MixOutReferenceIdeal.nD Cert.MixOutReferenceIdeal.τ).loc Cert.MixOutReferenceIdeal.main_arg6)
          ∧ r.2.mem ((c.tc : Thread Cert.MixOutReferenceIdeal.nD Cert.MixOutReferenceIdeal.τ).loc Cert.MixOutReferenceIdeal.main_arg7) = m' ((c.tc : Thread Cert.MixOutReferenceIdeal.nD Cert.MixOutReferenceIdeal.τ).loc Cert.MixOutReferenceIdeal.main_arg7))

def preserves_AdaLn_AdaLnIdeal : Prop :=
  True

def algebraic_AdaLnIdeal_AdaLnReferenceIdeal [hAdaLnIdeal : Cert.AdaLnIdeal.Facts] [hAdaLnReferenceIdeal : Cert.AdaLnReferenceIdeal.Facts] : Prop :=
  ∀ (m : (ℓ : Loc Cert.AdaLnIdeal.nD Cert.AdaLnIdeal.τ Cert.AdaLnIdeal.sig) → Buf (Elt Ideal) ℓ) (g : Dev Cert.AdaLnIdeal.nD → PrngReg)
    (m' : (ℓ : Loc Cert.AdaLnReferenceIdeal.nD Cert.AdaLnReferenceIdeal.τ Cert.AdaLnReferenceIdeal.sig) → Buf (Elt Ideal) ℓ) (g' : Dev Cert.AdaLnReferenceIdeal.nD → PrngReg), Pre_AdaLnIdeal m →
    (∀ c : Dev Cert.AdaLnIdeal.nD,
      m' ((c.tc : Thread Cert.AdaLnReferenceIdeal.nD Cert.AdaLnReferenceIdeal.τ).loc Cert.AdaLnReferenceIdeal.main_arg0) = m ((c.tc : Thread Cert.AdaLnIdeal.nD Cert.AdaLnIdeal.τ).loc Cert.AdaLnIdeal.main_arg0)
      ∧ m' ((c.tc : Thread Cert.AdaLnReferenceIdeal.nD Cert.AdaLnReferenceIdeal.τ).loc Cert.AdaLnReferenceIdeal.main_arg1) = m ((c.tc : Thread Cert.AdaLnIdeal.nD Cert.AdaLnIdeal.τ).loc Cert.AdaLnIdeal.main_arg1)
      ∧ m' ((c.tc : Thread Cert.AdaLnReferenceIdeal.nD Cert.AdaLnReferenceIdeal.τ).loc Cert.AdaLnReferenceIdeal.main_arg2) = m ((c.tc : Thread Cert.AdaLnIdeal.nD Cert.AdaLnIdeal.τ).loc Cert.AdaLnIdeal.main_arg2)) →
    ∃ (v0 : (c : Dev Cert.AdaLnIdeal.nD) → Buf (Elt Ideal) ((c.tc : Thread Cert.AdaLnIdeal.nD Cert.AdaLnIdeal.τ).loc Cert.AdaLnIdeal.main_v3)),
      θ_run (Cert.AdaLnIdeal.defs (F := Ideal)) (onTc (τ := Cert.AdaLnIdeal.τ) (Cert.AdaLnIdeal.main (F := Ideal))) ⟨m, fun _ => 0, g⟩ (fun r => ∀ c : Dev Cert.AdaLnIdeal.nD,
          r.2.mem ((c.tc : Thread Cert.AdaLnIdeal.nD Cert.AdaLnIdeal.τ).loc Cert.AdaLnIdeal.main_v3) = v0 c
          ∧ r.2.mem ((c.tc : Thread Cert.AdaLnIdeal.nD Cert.AdaLnIdeal.τ).loc Cert.AdaLnIdeal.main_arg0) = m ((c.tc : Thread Cert.AdaLnIdeal.nD Cert.AdaLnIdeal.τ).loc Cert.AdaLnIdeal.main_arg0)
          ∧ r.2.mem ((c.tc : Thread Cert.AdaLnIdeal.nD Cert.AdaLnIdeal.τ).loc Cert.AdaLnIdeal.main_arg1) = m ((c.tc : Thread Cert.AdaLnIdeal.nD Cert.AdaLnIdeal.τ).loc Cert.AdaLnIdeal.main_arg1)
          ∧ r.2.mem ((c.tc : Thread Cert.AdaLnIdeal.nD Cert.AdaLnIdeal.τ).loc Cert.AdaLnIdeal.main_arg2) = m ((c.tc : Thread Cert.AdaLnIdeal.nD Cert.AdaLnIdeal.τ).loc Cert.AdaLnIdeal.main_arg2))
      ∧ θ_run (Cert.AdaLnReferenceIdeal.defs (F := Ideal)) (onTc (τ := Cert.AdaLnReferenceIdeal.τ) (Cert.AdaLnReferenceIdeal.main (F := Ideal))) ⟨m', fun _ => 0, g'⟩ (fun r => ∀ c : Dev Cert.AdaLnReferenceIdeal.nD,
          r.2.mem ((c.tc : Thread Cert.AdaLnReferenceIdeal.nD Cert.AdaLnReferenceIdeal.τ).loc Cert.AdaLnReferenceIdeal.main_v6) = v0 c
          ∧ r.2.mem ((c.tc : Thread Cert.AdaLnReferenceIdeal.nD Cert.AdaLnReferenceIdeal.τ).loc Cert.AdaLnReferenceIdeal.main_arg0) = m' ((c.tc : Thread Cert.AdaLnReferenceIdeal.nD Cert.AdaLnReferenceIdeal.τ).loc Cert.AdaLnReferenceIdeal.main_arg0)
          ∧ r.2.mem ((c.tc : Thread Cert.AdaLnReferenceIdeal.nD Cert.AdaLnReferenceIdeal.τ).loc Cert.AdaLnReferenceIdeal.main_arg1) = m' ((c.tc : Thread Cert.AdaLnReferenceIdeal.nD Cert.AdaLnReferenceIdeal.τ).loc Cert.AdaLnReferenceIdeal.main_arg1)
          ∧ r.2.mem ((c.tc : Thread Cert.AdaLnReferenceIdeal.nD Cert.AdaLnReferenceIdeal.τ).loc Cert.AdaLnReferenceIdeal.main_arg2) = m' ((c.tc : Thread Cert.AdaLnReferenceIdeal.nD Cert.AdaLnReferenceIdeal.τ).loc Cert.AdaLnReferenceIdeal.main_arg2))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjReferenceIdeal : Cert.InProjReferenceIdeal.Facts) (hMixOut : Cert.MixOut.Facts) (hMixOutIdeal : Cert.MixOutIdeal.Facts) (hMixOutReferenceIdeal : Cert.MixOutReferenceIdeal.Facts) (hAdaLn : Cert.AdaLn.Facts) (hAdaLnIdeal : Cert.AdaLnIdeal.Facts) (hAdaLnReferenceIdeal : Cert.AdaLnReferenceIdeal.Facts),
    quiescent_Kernel (hKernel := hKernel)
    ∧ quiescent_KernelIdeal (hKernelIdeal := hKernelIdeal)
    ∧ quiescent_ReferenceIdeal (hReferenceIdeal := hReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ quiescent_MixOut (hMixOut := hMixOut)
    ∧ quiescent_MixOutIdeal (hMixOutIdeal := hMixOutIdeal)
    ∧ quiescent_MixOutReferenceIdeal (hMixOutReferenceIdeal := hMixOutReferenceIdeal)
    ∧ quiescent_AdaLn (hAdaLn := hAdaLn)
    ∧ quiescent_AdaLnIdeal (hAdaLnIdeal := hAdaLnIdeal)
    ∧ quiescent_AdaLnReferenceIdeal (hAdaLnReferenceIdeal := hAdaLnReferenceIdeal)
    ∧ preserves_Kernel_KernelIdeal
    ∧ algebraic_KernelIdeal_ReferenceIdeal (hKernelIdeal := hKernelIdeal) (hReferenceIdeal := hReferenceIdeal)
    ∧ preserves_InProj_InProjIdeal
    ∧ algebraic_InProjIdeal_InProjReferenceIdeal (hInProjIdeal := hInProjIdeal) (hInProjReferenceIdeal := hInProjReferenceIdeal)
    ∧ preserves_MixOut_MixOutIdeal
    ∧ algebraic_MixOutIdeal_MixOutReferenceIdeal (hMixOutIdeal := hMixOutIdeal) (hMixOutReferenceIdeal := hMixOutReferenceIdeal)
    ∧ preserves_AdaLn_AdaLnIdeal
    ∧ algebraic_AdaLnIdeal_AdaLnReferenceIdeal (hAdaLnIdeal := hAdaLnIdeal) (hAdaLnReferenceIdeal := hAdaLnReferenceIdeal)
-- ==== Kernel.lean ====
abbrev S8192x2048 : Shape := ⟨2, ![8192, 2048]⟩
abbrev S1x2048x11264 : Shape := ⟨3, ![1, 2048, 11264]⟩
abbrev S1x3x5632 : Shape := ⟨3, ![1, 3, 5632]⟩
abbrev S1x5632 : Shape := ⟨2, ![1, 5632]⟩
abbrev S1x5632x2048 : Shape := ⟨3, ![1, 5632, 2048]⟩
abbrev S2x12288 : Shape := ⟨2, ![2, 12288]⟩
abbrev S2x6x1x2048 : Shape := ⟨4, ![2, 6, 1, 2048]⟩
abbrev S2048x11264 : Shape := ⟨2, ![2048, 11264]⟩
abbrev S3x5632 : Shape := ⟨2, ![3, 5632]⟩
abbrev S5632 : Shape := ⟨1, ![5632]⟩
abbrev S5632x2048 : Shape := ⟨2, ![5632, 2048]⟩
abbrev S512x2048 : Shape := ⟨2, ![512, 2048]⟩
abbrev S16x2048 : Shape := ⟨2, ![16, 2048]⟩
abbrev S2048x512 : Shape := ⟨2, ![2048, 512]⟩
abbrev S3x512 : Shape := ⟨2, ![3, 512]⟩
abbrev S1x512 : Shape := ⟨2, ![1, 512]⟩
abbrev S1x1x1x2048 : Shape := ⟨4, ![1, 1, 1, 2048]⟩
abbrev S528x512 : Shape := ⟨2, ![528, 512]⟩
abbrev S512x512 : Shape := ⟨2, ![512, 512]⟩
abbrev S528x2048 : Shape := ⟨2, ![528, 2048]⟩
abbrev S64x512 : Shape := ⟨2, ![64, 512]⟩
abbrev S2048x256 : Shape := ⟨2, ![2048, 256]⟩
abbrev S528x256 : Shape := ⟨2, ![528, 256]⟩
abbrev S512x256 : Shape := ⟨2, ![512, 256]⟩
abbrev S1x2048 : Shape := ⟨2, ![1, 2048]⟩

abbrev nBuf : Space → Nat
  | .hbm => 16
  | .vmem => 27
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S1x2048x11264, .f32⟩
  | .hbm, ⟨3, _⟩ => ⟨S1x3x5632, .f32⟩
  | .hbm, ⟨4, _⟩ => ⟨S1x5632, .f32⟩
  | .hbm, ⟨5, _⟩ => ⟨S1x5632x2048, .f32⟩
  | .hbm, ⟨6, _⟩ => ⟨S2x12288, .f32⟩
  | .hbm, ⟨7, _⟩ => ⟨S2x6x1x2048, .f32⟩
  | .hbm, ⟨8, _⟩ => ⟨S2048x11264, .f32⟩
  | .hbm, ⟨9, _⟩ => ⟨S2048x11264, .bf16⟩
  | .hbm, ⟨10, _⟩ => ⟨S3x5632, .f32⟩
  | .hbm, ⟨11, _⟩ => ⟨S5632, .f32⟩
  | .hbm, ⟨12, _⟩ => ⟨S5632x2048, .f32⟩
  | .hbm, ⟨13, _⟩ => ⟨S5632x2048, .bf16⟩
  | .hbm, ⟨14, _⟩ => ⟨S1x5632, .f32⟩
  | .hbm, ⟨15, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S16x2048, .bf16⟩
  | .local _ .vmem, ⟨3, _⟩ => ⟨S16x2048, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S3x512, .f32⟩
  | .local _ .vmem, ⟨9, _⟩ => ⟨S3x512, .f32⟩
  | .local _ .vmem, ⟨10, _⟩ => ⟨S1x512, .f32⟩
  | .local _ .vmem, ⟨11, _⟩ => ⟨S1x512, .f32⟩
  | .local _ .vmem, ⟨12, _⟩ => ⟨S512x2048, .bf16⟩
  | .local _ .vmem, ⟨13, _⟩ => ⟨S512x2048, .bf16⟩
  | .local _ .vmem, ⟨14, _⟩ => ⟨S512x2048, .f32⟩
  | .local _ .vmem, ⟨15, _⟩ => ⟨S512x2048, .f32⟩
  | .local _ .vmem, ⟨16, _⟩ => ⟨S1x1x1x2048, .f32⟩
  | .local _ .vmem, ⟨17, _⟩ => ⟨S1x1x1x2048, .f32⟩
  | .local _ .vmem, ⟨18, _⟩ => ⟨S512x2048, .f32⟩
  | .local _ .vmem, ⟨19, _⟩ => ⟨S512x2048, .f32⟩
  | .local _ .vmem, ⟨20, _⟩ => ⟨S528x512, .f32⟩
  | .local _ .vmem, ⟨21, _⟩ => ⟨S528x512, .f32⟩
  | .local _ .vmem, ⟨22, _⟩ => ⟨S512x512, .f32⟩
  | .local _ .vmem, ⟨23, _⟩ => ⟨S512x512, .f32⟩
  | .local _ .vmem, ⟨24, _⟩ => ⟨S512x512, .bf16⟩
  | .local _ .vmem, ⟨25, _⟩ => ⟨S512x512, .bf16⟩
  | .local _ .vmem, ⟨26, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![178], ![false]⟩

def k0_cond5 (i : grid0.Coords) : BitVec 1 :=
  let arg0 : BitVec 32 := BitVec.ofNat 32 (i 0).val
  let c2_i32_3 : BitVec 32 := 2#32
  let v10 : BitVec 32 := Scalar.subi arg0 c2_i32_3
  let c0_i32_4 : BitVec 32 := 0#32
  let v11 : BitVec 32 := Scalar.maxsi v10 c0_i32_4
  let c11_i32 : BitVec 32 := 11#32
  let c0_i32_5 : BitVec 32 := 0#32
  let v12 : BitVec 1 := Scalar.cmpi .eq c11_i32 c0_i32_5
  let c1_i32_6 : BitVec 32 := 1#32
  let v13 : BitVec 32 := Scalar.select v12 c1_i32_6 c11_i32
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c10_i32 : BitVec 32 := 10#32
  let v52 : BitVec 1 := Scalar.cmpi .eq v21 c10_i32
  let c1_i32_25 : BitVec 32 := 1#32
  let v53 : BitVec 1 := Scalar.cmpi .sgt arg0 c1_i32_25
  let v54 : BitVec 1 := Scalar.andi v52 v53
  let v55 : BitVec 32 := Scalar.extui v54
  let c0_i32_26 : BitVec 32 := 0#32
  let v56 : BitVec 1 := Scalar.cmpi .ne v55 c0_i32_26
  v56

def cc0_transform_0 (i : grid0.Coords) : Fin 2 → Nat :=
  let arg0 : BitVec 32 := BitVec.ofNat 32 (i 0).val
  let c175_i32 : BitVec 32 := 175#32
  let v0 : BitVec 32 := Scalar.minsi arg0 c175_i32
  let c11_i32 : BitVec 32 := 11#32
  let v1 : BitVec 32 := Scalar.divsi v0 c11_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c11_i32 c0_i32_1
  let v8 : BitVec 32 := Scalar.extui v7
  let c0_i32_2 : BitVec 32 := 0#32
  let v9 : BitVec 1 := Scalar.cmpi .slt c11_i32 c0_i32_2
  let v10 : BitVec 32 := Scalar.extui v9
  let v11 : BitVec 32 := Scalar.subi v8 v10
  let v12 : BitVec 1 := Scalar.cmpi .ne v6 v11
  let v13 : BitVec 32 := Scalar.remsi v0 c11_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat]

def cc0_transform_1 (i : grid0.Coords) : Fin 2 → Nat :=
  let arg0 : BitVec 32 := BitVec.ofNat 32 (i 0).val
  let c175_i32 : BitVec 32 := 175#32
  let v0 : BitVec 32 := Scalar.minsi arg0 c175_i32
  let c11_i32 : BitVec 32 := 11#32
  let v1 : BitVec 32 := Scalar.divsi v0 c11_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c11_i32 c0_i32_1
  let v8 : BitVec 32 := Scalar.extui v7
  let c0_i32_2 : BitVec 32 := 0#32
  let v9 : BitVec 1 := Scalar.cmpi .slt c11_i32 c0_i32_2
  let v10 : BitVec 32 := Scalar.extui v9
  let v11 : BitVec 32 := Scalar.subi v8 v10
  let v12 : BitVec 1 := Scalar.cmpi .ne v6 v11
  let v13 : BitVec 32 := Scalar.remsi v0 c11_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c32_i32 : BitVec 32 := 32#32
  let v18 : BitVec 32 := Scalar.muli v17 c32_i32
  let c1_i32_4 : BitVec 32 := 1#32
  let v19 : BitVec 32 := Scalar.subi v18 c1_i32_4
  let c0_i32_5 : BitVec 32 := 0#32
  let v20 : BitVec 32 := Scalar.maxsi v19 c0_i32_5
  let c0_i32_6 : BitVec 32 := 0#32
  let c0_i32_7 : BitVec 32 := 0#32
  ![v20.toNat, c0_i32_6.toNat]

def cc0_transform_2 (i : grid0.Coords) : Fin 2 → Nat :=
  let arg0 : BitVec 32 := BitVec.ofNat 32 (i 0).val
  let c175_i32 : BitVec 32 := 175#32
  let v0 : BitVec 32 := Scalar.minsi arg0 c175_i32
  let c11_i32 : BitVec 32 := 11#32
  let c0_i32 : BitVec 32 := 0#32
  let v1 : BitVec 1 := Scalar.cmpi .eq c11_i32 c0_i32
  let c1_i32 : BitVec 32 := 1#32
  let v2 : BitVec 32 := Scalar.select v1 c1_i32 c11_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![c0_i32_3.toNat, v10.toNat]

def cc0_transform_3 (i : grid0.Coords) : Fin 2 → Nat :=
  let arg0 : BitVec 32 := BitVec.ofNat 32 (i 0).val
  let c175_i32 : BitVec 32 := 175#32
  let v0 : BitVec 32 := Scalar.minsi arg0 c175_i32
  let c11_i32 : BitVec 32 := 11#32
  let c0_i32 : BitVec 32 := 0#32
  let v1 : BitVec 1 := Scalar.cmpi .eq c11_i32 c0_i32
  let c1_i32 : BitVec 32 := 1#32
  let v2 : BitVec 32 := Scalar.select v1 c1_i32 c11_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c11_i32_3 : BitVec 32 := 11#32
  let v11 : BitVec 32 := Scalar.addi c11_i32_3 v10
  let c0_i32_4 : BitVec 32 := 0#32
  let c0_i32_5 : BitVec 32 := 0#32
  ![c0_i32_4.toNat, v11.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c175_i32 : BitVec 32 := 175#32
  let v1 : BitVec 32 := Scalar.maxsi c0_i32 v0
  let v2 : BitVec 32 := Scalar.minsi c175_i32 v1
  let c11_i32 : BitVec 32 := 11#32
  let c0_i32_0 : BitVec 32 := 0#32
  let v3 : BitVec 1 := Scalar.cmpi .eq c11_i32 c0_i32_0
  let c1_i32_1 : BitVec 32 := 1#32
  let v4 : BitVec 32 := Scalar.select v3 c1_i32_1 c11_i32
  let v5 : BitVec 32 := Scalar.remsi v2 v4
  let c0_i32_2 : BitVec 32 := 0#32
  let v6 : BitVec 1 := Scalar.cmpi .ne v5 c0_i32_2
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let v10 : BitVec 1 := Scalar.andi v9 v6
  let v11 : BitVec 32 := Scalar.addi v5 v4
  let v12 : BitVec 32 := Scalar.select v10 v11 v5
  let c0_i32_5 : BitVec 32 := 0#32
  let c0_i32_6 : BitVec 32 := 0#32
  ![c0_i32_5.toNat, v12.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c175_i32 : BitVec 32 := 175#32
  let v1 : BitVec 32 := Scalar.maxsi c0_i32 v0
  let v2 : BitVec 32 := Scalar.minsi c175_i32 v1
  let c11_i32 : BitVec 32 := 11#32
  let c0_i32_0 : BitVec 32 := 0#32
  let v3 : BitVec 1 := Scalar.cmpi .eq c11_i32 c0_i32_0
  let c1_i32_1 : BitVec 32 := 1#32
  let v4 : BitVec 32 := Scalar.select v3 c1_i32_1 c11_i32
  let v5 : BitVec 32 := Scalar.remsi v2 v4
  let c0_i32_2 : BitVec 32 := 0#32
  let v6 : BitVec 1 := Scalar.cmpi .ne v5 c0_i32_2
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let v10 : BitVec 1 := Scalar.andi v9 v6
  let v11 : BitVec 32 := Scalar.addi v5 v4
  let v12 : BitVec 32 := Scalar.select v10 v11 v5
  let c0_i32_5 : BitVec 32 := 0#32
  let c0_i32_6 : BitVec 32 := 0#32
  ![c0_i32_5.toNat, v12.toNat]

def cc0_transform_6 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c11_i32 : BitVec 32 := 11#32
  let c0_i32_0 : BitVec 32 := 0#32
  let v2 : BitVec 1 := Scalar.cmpi .eq c11_i32 c0_i32_0
  let c1_i32 : BitVec 32 := 1#32
  let v3 : BitVec 32 := Scalar.select v2 c1_i32 c11_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  ![v11.toNat, c0_i32_4.toNat]

def cc0_transform_7 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c11_i32 : BitVec 32 := 11#32
  let v2 : BitVec 32 := Scalar.divsi v1 c11_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c11_i32 c0_i32_2
  let v9 : BitVec 32 := Scalar.extui v8
  let c0_i32_3 : BitVec 32 := 0#32
  let v10 : BitVec 1 := Scalar.cmpi .slt c11_i32 c0_i32_3
  let v11 : BitVec 32 := Scalar.extui v10
  let v12 : BitVec 32 := Scalar.subi v9 v11
  let v13 : BitVec 1 := Scalar.cmpi .ne v7 v12
  let v14 : BitVec 32 := Scalar.remsi v1 c11_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c0_i32_5 : BitVec 32 := 0#32
  let c0_i32_6 : BitVec 32 := 0#32
  ![v18.toNat, c0_i32_5.toNat]

def cc0_transform_8 (i : grid0.Coords) : Fin 4 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c11_i32 : BitVec 32 := 11#32
  let v2 : BitVec 32 := Scalar.divsi v1 c11_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c11_i32 c0_i32_2
  let v9 : BitVec 32 := Scalar.extui v8
  let c0_i32_3 : BitVec 32 := 0#32
  let v10 : BitVec 1 := Scalar.cmpi .slt c11_i32 c0_i32_3
  let v11 : BitVec 32 := Scalar.extui v10
  let v12 : BitVec 32 := Scalar.subi v9 v11
  let v13 : BitVec 1 := Scalar.cmpi .ne v7 v12
  let v14 : BitVec 32 := Scalar.remsi v1 c11_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c8_i32 : BitVec 32 := 8#32
  let v19 : BitVec 32 := Scalar.divsi v18 c8_i32
  let c0_i32_5 : BitVec 32 := 0#32
  let v20 : BitVec 1 := Scalar.cmpi .sgt v18 c0_i32_5
  let v21 : BitVec 32 := Scalar.extui v20
  let c0_i32_6 : BitVec 32 := 0#32
  let v22 : BitVec 1 := Scalar.cmpi .slt v18 c0_i32_6
  let v23 : BitVec 32 := Scalar.extui v22
  let v24 : BitVec 32 := Scalar.subi v21 v23
  let c0_i32_7 : BitVec 32 := 0#32
  let v25 : BitVec 1 := Scalar.cmpi .sgt c8_i32 c0_i32_7
  let v26 : BitVec 32 := Scalar.extui v25
  let c0_i32_8 : BitVec 32 := 0#32
  let v27 : BitVec 1 := Scalar.cmpi .slt c8_i32 c0_i32_8
  let v28 : BitVec 32 := Scalar.extui v27
  let v29 : BitVec 32 := Scalar.subi v26 v28
  let v30 : BitVec 1 := Scalar.cmpi .ne v24 v29
  let v31 : BitVec 32 := Scalar.remsi v18 c8_i32
  let c0_i32_9 : BitVec 32 := 0#32
  let v32 : BitVec 1 := Scalar.cmpi .ne v31 c0_i32_9
  let v33 : BitVec 1 := Scalar.andi v30 v32
  let c1_i32_10 : BitVec 32 := 1#32
  let v34 : BitVec 32 := Scalar.subi v19 c1_i32_10
  let v35 : BitVec 32 := Scalar.select v33 v34 v19
  let c5_i32 : BitVec 32 := 5#32
  let c0_i32_11 : BitVec 32 := 0#32
  let c0_i32_12 : BitVec 32 := 0#32
  let c0_i32_13 : BitVec 32 := 0#32
  ![v35.toNat, c5_i32.toNat, c0_i32_11.toNat, c0_i32_12.toNat]

def cc0_transform_9 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c11_i32 : BitVec 32 := 11#32
  let v2 : BitVec 32 := Scalar.divsi v1 c11_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c11_i32 c0_i32_2
  let v9 : BitVec 32 := Scalar.extui v8
  let c0_i32_3 : BitVec 32 := 0#32
  let v10 : BitVec 1 := Scalar.cmpi .slt c11_i32 c0_i32_3
  let v11 : BitVec 32 := Scalar.extui v10
  let v12 : BitVec 32 := Scalar.subi v9 v11
  let v13 : BitVec 1 := Scalar.cmpi .ne v7 v12
  let v14 : BitVec 32 := Scalar.remsi v1 c11_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c0_i32_5 : BitVec 32 := 0#32
  let c0_i32_6 : BitVec 32 := 0#32
  ![v18.toNat, c0_i32_5.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S8192x2048 : Shape := ⟨2, ![8192, 2048]⟩
abbrev S1x2048x11264 : Shape := ⟨3, ![1, 2048, 11264]⟩
abbrev S1x3x5632 : Shape := ⟨3, ![1, 3, 5632]⟩
abbrev S1x5632 : Shape := ⟨2, ![1, 5632]⟩
abbrev S1x5632x2048 : Shape := ⟨3, ![1, 5632, 2048]⟩
abbrev S2x12288 : Shape := ⟨2, ![2, 12288]⟩
abbrev S2x4096x2048 : Shape := ⟨3, ![2, 4096, 2048]⟩
abbrev S2x2048 : Shape := ⟨2, ![2, 2048]⟩
abbrev S2048x11264 : Shape := ⟨2, ![2048, 11264]⟩
abbrev S2x4096x11264 : Shape := ⟨3, ![2, 4096, 11264]⟩
abbrev S2x4096x5632 : Shape := ⟨3, ![2, 4096, 5632]⟩
abbrev S_ : Shape := ⟨0, ![]⟩
abbrev S2x4098x5632 : Shape := ⟨3, ![2, 4098, 5632]⟩
abbrev S1x1x5632 : Shape := ⟨3, ![1, 1, 5632]⟩
abbrev S5632 : Shape := ⟨1, ![5632]⟩
abbrev S5632x2048 : Shape := ⟨2, ![5632, 2048]⟩
abbrev S2x1x2048 : Shape := ⟨3, ![2, 1, 2048]⟩

abbrev nBuf : Space → Nat
  | .hbm => 75
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S1x2048x11264, .f32⟩
  | .hbm, ⟨3, _⟩ => ⟨S1x3x5632, .f32⟩
  | .hbm, ⟨4, _⟩ => ⟨S1x5632, .f32⟩
  | .hbm, ⟨5, _⟩ => ⟨S1x5632x2048, .f32⟩
  | .hbm, ⟨6, _⟩ => ⟨S2x12288, .f32⟩
  | .hbm, ⟨7, _⟩ => ⟨S8192x2048, .f32⟩
  | .hbm, ⟨8, _⟩ => ⟨S2x4096x2048, .f32⟩
  | .hbm, ⟨9, _⟩ => ⟨S2x4096x2048, .f32⟩
  | .hbm, ⟨10, _⟩ => ⟨S2x2048, .f32⟩
  | .hbm, ⟨11, _⟩ => ⟨S2x2048, .f32⟩
  | .hbm, ⟨12, _⟩ => ⟨S2x2048, .f32⟩
  | .hbm, ⟨13, _⟩ => ⟨S2x2048, .f32⟩
  | .hbm, ⟨14, _⟩ => ⟨S2x2048, .f32⟩
  | .hbm, ⟨15, _⟩ => ⟨S2x2048, .f32⟩
  | .hbm, ⟨16, _⟩ => ⟨S2048x11264, .f32⟩
  | .hbm, ⟨17, _⟩ => ⟨S2x4096x11264, .f32⟩
  | .hbm, ⟨18, _⟩ => ⟨S2x4096x5632, .f32⟩
  | .hbm, ⟨19, _⟩ => ⟨S2x4096x5632, .f32⟩
  | .hbm, ⟨20, _⟩ => ⟨S_, .i32⟩
  | .hbm, ⟨21, _⟩ => ⟨S_, .f32⟩
  | .hbm, ⟨22, _⟩ => ⟨S2x4098x5632, .f32⟩
  | .hbm, ⟨23, _⟩ => ⟨S2x4096x5632, .f32⟩
  | .hbm, ⟨24, _⟩ => ⟨S1x1x5632, .f32⟩
  | .hbm, ⟨25, _⟩ => ⟨S5632, .f32⟩
  | .hbm, ⟨26, _⟩ => ⟨S1x1x5632, .f32⟩
  | .hbm, ⟨27, _⟩ => ⟨S2x4096x5632, .f32⟩
  | .hbm, ⟨28, _⟩ => ⟨S2x4096x5632, .f32⟩
  | .hbm, ⟨29, _⟩ => ⟨S_, .f32⟩
  | .hbm, ⟨30, _⟩ => ⟨S2x4096x5632, .f32⟩
  | .hbm, ⟨31, _⟩ => ⟨S2x4096x5632, .f32⟩
  | .hbm, ⟨32, _⟩ => ⟨S2x4096x5632, .f32⟩
  | .hbm, ⟨33, _⟩ => ⟨S1x1x5632, .f32⟩
  | .hbm, ⟨34, _⟩ => ⟨S5632, .f32⟩
  | .hbm, ⟨35, _⟩ => ⟨S1x1x5632, .f32⟩
  | .hbm, ⟨36, _⟩ => ⟨S2x4096x5632, .f32⟩
  | .hbm, ⟨37, _⟩ => ⟨S2x4096x5632, .f32⟩
  | .hbm, ⟨38, _⟩ => ⟨S2x4096x5632, .f32⟩
  | .hbm, ⟨39, _⟩ => ⟨S2x4096x5632, .f32⟩
  | .hbm, ⟨40, _⟩ => ⟨S1x1x5632, .f32⟩
  | .hbm, ⟨41, _⟩ => ⟨S5632, .f32⟩
  | .hbm, ⟨42, _⟩ => ⟨S1x1x5632, .f32⟩
  | .hbm, ⟨43, _⟩ => ⟨S2x4096x5632, .f32⟩
  | .hbm, ⟨44, _⟩ => ⟨S2x4096x5632, .f32⟩
  | .hbm, ⟨45, _⟩ => ⟨S2x4096x5632, .f32⟩
  | .hbm, ⟨46, _⟩ => ⟨S5632, .f32⟩
  | .hbm, ⟨47, _⟩ => ⟨S1x1x5632, .f32⟩
  | .hbm, ⟨48, _⟩ => ⟨S2x4096x5632, .f32⟩
  | .hbm, ⟨49, _⟩ => ⟨S2x4096x5632, .f32⟩
  | .hbm, ⟨50, _⟩ => ⟨S2x4096x5632, .f32⟩
  | .hbm, ⟨51, _⟩ => ⟨S2x4096x5632, .f32⟩
  | .hbm, ⟨52, _⟩ => ⟨S_, .f32⟩
  | .hbm, ⟨53, _⟩ => ⟨S2x4096x5632, .f32⟩
  | .hbm, ⟨54, _⟩ => ⟨S2x4096x5632, .f32⟩
  | .hbm, ⟨55, _⟩ => ⟨S2x4096x5632, .f32⟩
  | .hbm, ⟨56, _⟩ => ⟨S_, .f32⟩
  | .hbm, ⟨57, _⟩ => ⟨S2x4096x5632, .f32⟩
  | .hbm, ⟨58, _⟩ => ⟨S2x4096x5632, .f32⟩
  | .hbm, ⟨59, _⟩ => ⟨S2x4096x5632, .f32⟩
  | .hbm, ⟨60, _⟩ => ⟨S_, .f32⟩
  | .hbm, ⟨61, _⟩ => ⟨S2x4096x5632, .f32⟩
  | .hbm, ⟨62, _⟩ => ⟨S2x4096x5632, .f32⟩
  | .hbm, ⟨63, _⟩ => ⟨S_, .f32⟩
  | .hbm, ⟨64, _⟩ => ⟨S2x4096x5632, .f32⟩
  | .hbm, ⟨65, _⟩ => ⟨S2x4096x5632, .f32⟩
  | .hbm, ⟨66, _⟩ => ⟨S2x4096x5632, .f32⟩
  | .hbm, ⟨67, _⟩ => ⟨S2x4096x5632, .f32⟩
  | .hbm, ⟨68, _⟩ => ⟨S5632x2048, .f32⟩
  | .hbm, ⟨69, _⟩ => ⟨S2x4096x2048, .f32⟩
  | .hbm, ⟨70, _⟩ => ⟨S2x1x2048, .f32⟩
  | .hbm, ⟨71, _⟩ => ⟨S2x4096x2048, .f32⟩
  | .hbm, ⟨72, _⟩ => ⟨S2x4096x2048, .f32⟩
  | .hbm, ⟨73, _⟩ => ⟨S2x4096x2048, .f32⟩
  | .hbm, ⟨74, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_call0_v0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_0 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_1 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_2 : Ref sig .tc := ⟨.hbm, 60, rfl⟩
abbrev main_v48 : Ref sig .tc := ⟨.hbm, 61, rfl⟩
abbrev main_v49 : Ref sig .tc := ⟨.hbm, 62, rfl⟩
abbrev main_cst_3 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩

abbrev nD : Nat := 1
abbrev τ : Topo := Topo.v7x

variable {F : FTy → Type} [FloatOps F]
-- ==== InProj.lean ====
abbrev S2x4096x2048 : Shape := ⟨3, ![2, 4096, 2048]⟩
abbrev S2x12288 : Shape := ⟨2, ![2, 12288]⟩
abbrev S1x2048 : Shape := ⟨2, ![1, 2048]⟩
abbrev S1x2048x4096 : Shape := ⟨3, ![1, 2048, 4096]⟩
abbrev S1x64 : Shape := ⟨2, ![1, 64]⟩
abbrev S8192x2048 : Shape := ⟨2, ![8192, 2048]⟩
abbrev S2x6x1x2048 : Shape := ⟨4, ![2, 6, 1, 2048]⟩
abbrev S2048 : Shape := ⟨1, ![2048]⟩
abbrev S2048x4096 : Shape := ⟨2, ![2048, 4096]⟩
abbrev S64 : Shape := ⟨1, ![64]⟩
abbrev S2x64 : Shape := ⟨2, ![2, 64]⟩
abbrev S128 : Shape := ⟨1, ![128]⟩
abbrev S1x128 : Shape := ⟨2, ![1, 128]⟩
abbrev S8192x3072 : Shape := ⟨2, ![8192, 3072]⟩
abbrev S8192x1024 : Shape := ⟨2, ![8192, 1024]⟩
abbrev S512x2048 : Shape := ⟨2, ![512, 2048]⟩
abbrev S1x1x1x2048 : Shape := ⟨4, ![1, 1, 1, 2048]⟩
abbrev S512x3072 : Shape := ⟨2, ![512, 3072]⟩
abbrev S512x1024 : Shape := ⟨2, ![512, 1024]⟩
abbrev S512 : Shape := ⟨1, ![512]⟩
abbrev S512x1 : Shape := ⟨2, ![512, 1]⟩
abbrev S2048x1024 : Shape := ⟨2, ![2048, 1024]⟩
abbrev S512x128 : Shape := ⟨2, ![512, 128]⟩

abbrev nBuf : Space → Nat
  | .hbm => 24
  | .vmem => 14
  | .smem => 0
  | _ => 0

abbrev bufTy : (tb : Table) → Fin (tcTables nBuf tb) → BufTy
  | .hbm, ⟨0, _⟩ => ⟨S2x4096x2048, .f32⟩
  | .hbm, ⟨1, _⟩ => ⟨S2x12288, .f32⟩
  | .hbm, ⟨2, _⟩ => ⟨S1x2048, .f32⟩
  | .hbm, ⟨3, _⟩ => ⟨S1x2048x4096, .f32⟩
  | .hbm, ⟨4, _⟩ => ⟨S1x64, .f32⟩
  | .hbm, ⟨5, _⟩ => ⟨S1x64, .f32⟩
  | .hbm, ⟨6, _⟩ => ⟨S8192x2048, .f32⟩
  | .hbm, ⟨7, _⟩ => ⟨S2x6x1x2048, .f32⟩
  | .hbm, ⟨8, _⟩ => ⟨S2048, .f32⟩
  | .hbm, ⟨9, _⟩ => ⟨S2048x4096, .f32⟩
  | .hbm, ⟨10, _⟩ => ⟨S2048x4096, .bf16⟩
  | .hbm, ⟨11, _⟩ => ⟨S64, .f32⟩
  | .hbm, ⟨12, _⟩ => ⟨S64, .f32⟩
  | .hbm, ⟨13, _⟩ => ⟨S1x64, .f32⟩
  | .hbm, ⟨14, _⟩ => ⟨S2x64, .f32⟩
  | .hbm, ⟨15, _⟩ => ⟨S128, .f32⟩
  | .hbm, ⟨16, _⟩ => ⟨S1x128, .f32⟩
  | .hbm, ⟨17, _⟩ => ⟨S1x64, .f32⟩
  | .hbm, ⟨18, _⟩ => ⟨S2x64, .f32⟩
  | .hbm, ⟨19, _⟩ => ⟨S128, .f32⟩
  | .hbm, ⟨20, _⟩ => ⟨S1x128, .f32⟩
  | .hbm, ⟨21, _⟩ => ⟨S1x2048, .f32⟩
  | .hbm, ⟨22, _⟩ => ⟨S8192x3072, .bf16⟩
  | .hbm, ⟨23, _⟩ => ⟨S8192x1024, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x1x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1x2048, .f32⟩
  | .local _ .vmem, ⟨7, _⟩ => ⟨S2048x4096, .bf16⟩
  | .local _ .vmem, ⟨8, _⟩ => ⟨S1x128, .f32⟩
  | .local _ .vmem, ⟨9, _⟩ => ⟨S1x128, .f32⟩
  | .local _ .vmem, ⟨10, _⟩ => ⟨S512x3072, .bf16⟩
  | .local _ .vmem, ⟨11, _⟩ => ⟨S512x3072, .bf16⟩
  | .local _ .vmem, ⟨12, _⟩ => ⟨S512x1024, .f32⟩
  | .local _ .vmem, ⟨13, _⟩ => ⟨S512x1024, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16_0 : Ref sig .tc := ⟨.hbm, 22, rfl⟩
abbrev main_v16_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

def cc0_transform_3 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c0_i32_5 : BitVec 32 := 0#32
  let c0_i32_6 : BitVec 32 := 0#32
  let c0_i32_7 : BitVec 32 := 0#32
  ![v16.toNat, c1_i32_4.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== InProjReferenceIdeal.lean ====
abbrev S2x4096x2048 : Shape := ⟨3, ![2, 4096, 2048]⟩
abbrev S2x12288 : Shape := ⟨2, ![2, 12288]⟩
abbrev S1x2048 : Shape := ⟨2, ![1, 2048]⟩
abbrev S1x2048x4096 : Shape := ⟨3, ![1, 2048, 4096]⟩
abbrev S1x64 : Shape := ⟨2, ![1, 64]⟩
abbrev S2x2048 : Shape := ⟨2, ![2, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x1x2048 : Shape := ⟨3, ![2, 1, 2048]⟩
abbrev S2048x4096 : Shape := ⟨2, ![2048, 4096]⟩
abbrev S2x4096x4096 : Shape := ⟨3, ![2, 4096, 4096]⟩
abbrev S2x4096x1024 : Shape := ⟨3, ![2, 4096, 1024]⟩
abbrev S2x4096x8x2x64 : Shape := ⟨5, ![2, 4096, 8, 2, 64]⟩
abbrev S64 : Shape := ⟨1, ![64]⟩
abbrev S2x4096x8x2 : Shape := ⟨4, ![2, 4096, 8, 2]⟩
abbrev S2x4096x8x2x1 : Shape := ⟨5, ![2, 4096, 8, 2, 1]⟩
abbrev S1x1x1x1x64 : Shape := ⟨5, ![1, 1, 1, 1, 64]⟩
abbrev S2x4096x3072 : Shape := ⟨3, ![2, 4096, 3072]⟩
abbrev S8192x3072 : Shape := ⟨2, ![8192, 3072]⟩
abbrev S8192x1024 : Shape := ⟨2, ![8192, 1024]⟩

abbrev nBuf : Space → Nat
  | .hbm => 89
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x12288, .f32⟩
  | .hbm, ⟨2, _⟩ => ⟨S1x2048, .f32⟩
  | .hbm, ⟨3, _⟩ => ⟨S1x2048x4096, .f32⟩
  | .hbm, ⟨4, _⟩ => ⟨S1x64, .f32⟩
  | .hbm, ⟨5, _⟩ => ⟨S1x64, .f32⟩
  | .hbm, ⟨6, _⟩ => ⟨S2x2048, .f32⟩
  | .hbm, ⟨7, _⟩ => ⟨S2x2048, .f32⟩
  | .hbm, ⟨8, _⟩ => ⟨S2x2048, .f32⟩
  | .hbm, ⟨9, _⟩ => ⟨S2x2048, .f32⟩
  | .hbm, ⟨10, _⟩ => ⟨S2x2048, .f32⟩
  | .hbm, ⟨11, _⟩ => ⟨S2x2048, .f32⟩
  | .hbm, ⟨12, _⟩ => ⟨S2048, .f32⟩
  | .hbm, ⟨13, _⟩ => ⟨S2x4096x2048, .f32⟩
  | .hbm, ⟨14, _⟩ => ⟨S_, .f32⟩
  | .hbm, ⟨15, _⟩ => ⟨S2x4096, .f32⟩
  | .hbm, ⟨16, _⟩ => ⟨S2x4096x1, .f32⟩
  | .hbm, ⟨17, _⟩ => ⟨S_, .f32⟩
  | .hbm, ⟨18, _⟩ => ⟨S2x4096x1, .f32⟩
  | .hbm, ⟨19, _⟩ => ⟨S2x4096x1, .f32⟩
  | .hbm, ⟨20, _⟩ => ⟨S_, .f32⟩
  | .hbm, ⟨21, _⟩ => ⟨S2x4096x1, .f32⟩
  | .hbm, ⟨22, _⟩ => ⟨S2x4096x1, .f32⟩
  | .hbm, ⟨23, _⟩ => ⟨S2x4096x1, .f32⟩
  | .hbm, ⟨24, _⟩ => ⟨S2x4096x2048, .f32⟩
  | .hbm, ⟨25, _⟩ => ⟨S2x4096x2048, .f32⟩
  | .hbm, ⟨26, _⟩ => ⟨S1x1x2048, .f32⟩
  | .hbm, ⟨27, _⟩ => ⟨S2x4096x2048, .f32⟩
  | .hbm, ⟨28, _⟩ => ⟨S2x4096x2048, .f32⟩
  | .hbm, ⟨29, _⟩ => ⟨S2x1x2048, .f32⟩
  | .hbm, ⟨30, _⟩ => ⟨S_, .f32⟩
  | .hbm, ⟨31, _⟩ => ⟨S2x1x2048, .f32⟩
  | .hbm, ⟨32, _⟩ => ⟨S2x1x2048, .f32⟩
  | .hbm, ⟨33, _⟩ => ⟨S2x4096x2048, .f32⟩
  | .hbm, ⟨34, _⟩ => ⟨S2x4096x2048, .f32⟩
  | .hbm, ⟨35, _⟩ => ⟨S2x1x2048, .f32⟩
  | .hbm, ⟨36, _⟩ => ⟨S2x4096x2048, .f32⟩
  | .hbm, ⟨37, _⟩ => ⟨S2x4096x2048, .f32⟩
  | .hbm, ⟨38, _⟩ => ⟨S2048x4096, .f32⟩
  | .hbm, ⟨39, _⟩ => ⟨S2x4096x4096, .f32⟩
  | .hbm, ⟨40, _⟩ => ⟨S2x4096x1024, .f32⟩
  | .hbm, ⟨41, _⟩ => ⟨S2x4096x1024, .f32⟩
  | .hbm, ⟨42, _⟩ => ⟨S2x4096x1024, .f32⟩
  | .hbm, ⟨43, _⟩ => ⟨S2x4096x1024, .f32⟩
  | .hbm, ⟨44, _⟩ => ⟨S2x4096x8x2x64, .f32⟩
  | .hbm, ⟨45, _⟩ => ⟨S64, .f32⟩
  | .hbm, ⟨46, _⟩ => ⟨S2x4096x8x2x64, .f32⟩
  | .hbm, ⟨47, _⟩ => ⟨S_, .f32⟩
  | .hbm, ⟨48, _⟩ => ⟨S2x4096x8x2, .f32⟩
  | .hbm, ⟨49, _⟩ => ⟨S2x4096x8x2x1, .f32⟩
  | .hbm, ⟨50, _⟩ => ⟨S_, .f32⟩
  | .hbm, ⟨51, _⟩ => ⟨S2x4096x8x2x1, .f32⟩
  | .hbm, ⟨52, _⟩ => ⟨S2x4096x8x2x1, .f32⟩
  | .hbm, ⟨53, _⟩ => ⟨S_, .f32⟩
  | .hbm, ⟨54, _⟩ => ⟨S2x4096x8x2x1, .f32⟩
  | .hbm, ⟨55, _⟩ => ⟨S2x4096x8x2x1, .f32⟩
  | .hbm, ⟨56, _⟩ => ⟨S2x4096x8x2x1, .f32⟩
  | .hbm, ⟨57, _⟩ => ⟨S2x4096x8x2x64, .f32⟩
  | .hbm, ⟨58, _⟩ => ⟨S2x4096x8x2x64, .f32⟩
  | .hbm, ⟨59, _⟩ => ⟨S1x1x1x1x64, .f32⟩
  | .hbm, ⟨60, _⟩ => ⟨S2x4096x8x2x64, .f32⟩
  | .hbm, ⟨61, _⟩ => ⟨S2x4096x8x2x64, .f32⟩
  | .hbm, ⟨62, _⟩ => ⟨S_, .f32⟩
  | .hbm, ⟨63, _⟩ => ⟨S2x4096x8x2x64, .f32⟩
  | .hbm, ⟨64, _⟩ => ⟨S2x4096x8x2x64, .f32⟩
  | .hbm, ⟨65, _⟩ => ⟨S2x4096x8x2x64, .f32⟩
  | .hbm, ⟨66, _⟩ => ⟨S64, .f32⟩
  | .hbm, ⟨67, _⟩ => ⟨S2x4096x8x2x64, .f32⟩
  | .hbm, ⟨68, _⟩ => ⟨S_, .f32⟩
  | .hbm, ⟨69, _⟩ => ⟨S2x4096x8x2, .f32⟩
  | .hbm, ⟨70, _⟩ => ⟨S2x4096x8x2x1, .f32⟩
  | .hbm, ⟨71, _⟩ => ⟨S_, .f32⟩
  | .hbm, ⟨72, _⟩ => ⟨S2x4096x8x2x1, .f32⟩
  | .hbm, ⟨73, _⟩ => ⟨S2x4096x8x2x1, .f32⟩
  | .hbm, ⟨74, _⟩ => ⟨S_, .f32⟩
  | .hbm, ⟨75, _⟩ => ⟨S2x4096x8x2x1, .f32⟩
  | .hbm, ⟨76, _⟩ => ⟨S2x4096x8x2x1, .f32⟩
  | .hbm, ⟨77, _⟩ => ⟨S2x4096x8x2x1, .f32⟩
  | .hbm, ⟨78, _⟩ => ⟨S2x4096x8x2x64, .f32⟩
  | .hbm, ⟨79, _⟩ => ⟨S2x4096x8x2x64, .f32⟩
  | .hbm, ⟨80, _⟩ => ⟨S1x1x1x1x64, .f32⟩
  | .hbm, ⟨81, _⟩ => ⟨S2x4096x8x2x64, .f32⟩
  | .hbm, ⟨82, _⟩ => ⟨S2x4096x8x2x64, .f32⟩
  | .hbm, ⟨83, _⟩ => ⟨S2x4096x1024, .f32⟩
  | .hbm, ⟨84, _⟩ => ⟨S2x4096x1024, .f32⟩
  | .hbm, ⟨85, _⟩ => ⟨S2x4096x3072, .f32⟩
  | .hbm, ⟨86, _⟩ => ⟨S8192x3072, .f32⟩
  | .hbm, ⟨87, _⟩ => ⟨S8192x3072, .bf16⟩
  | .hbm, ⟨88, _⟩ => ⟨S8192x1024, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_3 : Ref sig .tc := ⟨.hbm, 47, rfl⟩
abbrev main_v37 : Ref sig .tc := ⟨.hbm, 48, rfl⟩
abbrev main_v38 : Ref sig .tc := ⟨.hbm, 49, rfl⟩
abbrev main_cst_4 : Ref sig .tc := ⟨.hbm, 50, rfl⟩
abbrev main_v39 : Ref sig .tc := ⟨.hbm, 51, rfl⟩
abbrev main_v40 : Ref sig .tc := ⟨.hbm, 52, rfl⟩
abbrev main_cst_5 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_6 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_7 : Ref sig .tc := ⟨.hbm, 68, rfl⟩
abbrev main_v54 : Ref sig .tc := ⟨.hbm, 69, rfl⟩
abbrev main_v55 : Ref sig .tc := ⟨.hbm, 70, rfl⟩
abbrev main_cst_8 : Ref sig .tc := ⟨.hbm, 71, rfl⟩
abbrev main_v56 : Ref sig .tc := ⟨.hbm, 72, rfl⟩
abbrev main_v57 : Ref sig .tc := ⟨.hbm, 73, rfl⟩
abbrev main_cst_9 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩

abbrev nD : Nat := 1
abbrev τ : Topo := Topo.v7x

variable {F : FTy → Type} [FloatOps F]
-- ==== MixOut.lean ====
abbrev S2x4096x2048 : Shape := ⟨3, ![2, 4096, 2048]⟩
abbrev S8192x1024 : Shape := ⟨2, ![8192, 1024]⟩
abbrev S1x1024x1024 : Shape := ⟨3, ![1, 1024, 1024]⟩
abbrev S1x1024 : Shape := ⟨2, ![1, 1024]⟩
abbrev S1x2048x2048 : Shape := ⟨3, ![1, 2048, 2048]⟩
abbrev S2x12288 : Shape := ⟨2, ![2, 12288]⟩
abbrev S1x2048 : Shape := ⟨2, ![1, 2048]⟩
abbrev S8192x2048 : Shape := ⟨2, ![8192, 2048]⟩
abbrev S1024x1024 : Shape := ⟨2, ![1024, 1024]⟩
abbrev S1024 : Shape := ⟨1, ![1024]⟩
abbrev S2048x2048 : Shape := ⟨2, ![2048, 2048]⟩
abbrev S2x6x1x2048 : Shape := ⟨4, ![2, 6, 1, 2048]⟩
abbrev S2048 : Shape := ⟨1, ![2048]⟩
abbrev S512x2048 : Shape := ⟨2, ![512, 2048]⟩
abbrev S512x1024 : Shape := ⟨2, ![512, 1024]⟩
abbrev S1x1x1x2048 : Shape := ⟨4, ![1, 1, 1, 2048]⟩
abbrev S1024x2048 : Shape := ⟨2, ![1024, 2048]⟩
abbrev S512 : Shape := ⟨1, ![512]⟩
abbrev S512x1 : Shape := ⟨2, ![512, 1]⟩

abbrev nBuf : Space → Nat
  | .hbm => 20
  | .vmem => 20
  | .smem => 0
  | _ => 0

abbrev bufTy : (tb : Table) → Fin (tcTables nBuf tb) → BufTy
  | .hbm, ⟨0, _⟩ => ⟨S2x4096x2048, .f32⟩
  | .hbm, ⟨1, _⟩ => ⟨S8192x1024, .bf16⟩
  | .hbm, ⟨2, _⟩ => ⟨S8192x1024, .f32⟩
  | .hbm, ⟨3, _⟩ => ⟨S1x1024x1024, .f32⟩
  | .hbm, ⟨4, _⟩ => ⟨S1x1024, .f32⟩
  | .hbm, ⟨5, _⟩ => ⟨S1x2048x2048, .f32⟩
  | .hbm, ⟨6, _⟩ => ⟨S2x12288, .f32⟩
  | .hbm, ⟨7, _⟩ => ⟨S1x2048, .f32⟩
  | .hbm, ⟨8, _⟩ => ⟨S8192x2048, .f32⟩
  | .hbm, ⟨9, _⟩ => ⟨S1024x1024, .f32⟩
  | .hbm, ⟨10, _⟩ => ⟨S1024x1024, .bf16⟩
  | .hbm, ⟨11, _⟩ => ⟨S1024, .f32⟩
  | .hbm, ⟨12, _⟩ => ⟨S2048x2048, .f32⟩
  | .hbm, ⟨13, _⟩ => ⟨S2048x2048, .bf16⟩
  | .hbm, ⟨14, _⟩ => ⟨S2x6x1x2048, .f32⟩
  | .hbm, ⟨15, _⟩ => ⟨S2048, .f32⟩
  | .hbm, ⟨16, _⟩ => ⟨S1x1024, .f32⟩
  | .hbm, ⟨17, _⟩ => ⟨S1x2048, .f32⟩
  | .hbm, ⟨18, _⟩ => ⟨S8192x2048, .f32⟩
  | .hbm, ⟨19, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1x1024, .f32⟩
  | .local _ .vmem, ⟨8, _⟩ => ⟨S2048x2048, .bf16⟩
  | .local _ .vmem, ⟨9, _⟩ => ⟨S1x1x1x2048, .f32⟩
  | .local _ .vmem, ⟨10, _⟩ => ⟨S1x1x1x2048, .f32⟩
  | .local _ .vmem, ⟨11, _⟩ => ⟨S1x2048, .f32⟩
  | .local _ .vmem, ⟨12, _⟩ => ⟨S1x1x1x2048, .f32⟩
  | .local _ .vmem, ⟨13, _⟩ => ⟨S1x1x1x2048, .f32⟩
  | .local _ .vmem, ⟨14, _⟩ => ⟨S1x1x1x2048, .f32⟩
  | .local _ .vmem, ⟨15, _⟩ => ⟨S1x1x1x2048, .f32⟩
  | .local _ .vmem, ⟨16, _⟩ => ⟨S512x2048, .f32⟩
  | .local _ .vmem, ⟨17, _⟩ => ⟨S512x2048, .f32⟩
  | .local _ .vmem, ⟨18, _⟩ => ⟨S512x2048, .bf16⟩
  | .local _ .vmem, ⟨19, _⟩ => ⟨S512x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let c0_i32_4 : BitVec 32 := 0#32
  let c0_i32_5 : BitVec 32 := 0#32
  let c0_i32_6 : BitVec 32 := 0#32
  ![v16.toNat, c2_i32.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let c0_i32_4 : BitVec 32 := 0#32
  let c0_i32_5 : BitVec 32 := 0#32
  let c0_i32_6 : BitVec 32 := 0#32
  ![v16.toNat, c3_i32.toNat, c0_i32_4.toNat, c0_i32_5.toNat]

def cc0_transform_9 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let c0_i32_4 : BitVec 32 := 0#32
  let c0_i32_5 : BitVec 32 := 0#32
  let c0_i32_6 : BitVec 32 := 0#32
  ![v16.toNat, c4_i32.toNat, c0_i32_4.toNat, c0_i32_5.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MixOutReferenceIdeal.lean ====
abbrev S2x4096x2048 : Shape := ⟨3, ![2, 4096, 2048]⟩
abbrev S8192x1024 : Shape := ⟨2, ![8192, 1024]⟩
abbrev S1x1024x1024 : Shape := ⟨3, ![1, 1024, 1024]⟩
abbrev S1x1024 : Shape := ⟨2, ![1, 1024]⟩
abbrev S1x2048x2048 : Shape := ⟨3, ![1, 2048, 2048]⟩
abbrev S2x12288 : Shape := ⟨2, ![2, 12288]⟩
abbrev S1x2048 : Shape := ⟨2, ![1, 2048]⟩
abbrev S2x2048 : Shape := ⟨2, ![2, 2048]⟩
abbrev S2x4096x1024 : Shape := ⟨3, ![2, 4096, 1024]⟩
abbrev S_ : Shape := ⟨0, ![]⟩
abbrev S1024x1024 : Shape := ⟨2, ![1024, 1024]⟩
abbrev S1024 : Shape := ⟨1, ![1024]⟩
abbrev S1x1x1024 : Shape := ⟨3, ![1, 1, 1024]⟩
abbrev S2048x2048 : Shape := ⟨2, ![2048, 2048]⟩
abbrev S2x1x2048 : Shape := ⟨3, ![2, 1, 2048]⟩
abbrev S2048 : Shape := ⟨1, ![2048]⟩
abbrev S2x4096 : Shape := ⟨2, ![2, 4096]⟩
abbrev S2x4096x1 : Shape := ⟨3, ![2, 4096, 1]⟩
abbrev S1x1x2048 : Shape := ⟨3, ![1, 1, 2048]⟩
abbrev S8192x2048 : Shape := ⟨2, ![8192, 2048]⟩

abbrev nBuf : Space → Nat
  | .hbm => 85
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S8192x1024, .bf16⟩
  | .hbm, ⟨2, _⟩ => ⟨S8192x1024, .f32⟩
  | .hbm, ⟨3, _⟩ => ⟨S1x1024x1024, .f32⟩
  | .hbm, ⟨4, _⟩ => ⟨S1x1024, .f32⟩
  | .hbm, ⟨5, _⟩ => ⟨S1x2048x2048, .f32⟩
  | .hbm, ⟨6, _⟩ => ⟨S2x12288, .f32⟩
  | .hbm, ⟨7, _⟩ => ⟨S1x2048, .f32⟩
  | .hbm, ⟨8, _⟩ => ⟨S2x2048, .f32⟩
  | .hbm, ⟨9, _⟩ => ⟨S2x2048, .f32⟩
  | .hbm, ⟨10, _⟩ => ⟨S2x2048, .f32⟩
  | .hbm, ⟨11, _⟩ => ⟨S2x2048, .f32⟩
  | .hbm, ⟨12, _⟩ => ⟨S2x2048, .f32⟩
  | .hbm, ⟨13, _⟩ => ⟨S2x2048, .f32⟩
  | .hbm, ⟨14, _⟩ => ⟨S8192x1024, .f32⟩
  | .hbm, ⟨15, _⟩ => ⟨S2x4096x1024, .f32⟩
  | .hbm, ⟨16, _⟩ => ⟨S2x4096x1024, .f32⟩
  | .hbm, ⟨17, _⟩ => ⟨S2x4096x1024, .f32⟩
  | .hbm, ⟨18, _⟩ => ⟨S2x4096x1024, .f32⟩
  | .hbm, ⟨19, _⟩ => ⟨S_, .f32⟩
  | .hbm, ⟨20, _⟩ => ⟨S2x4096x1024, .f32⟩
  | .hbm, ⟨21, _⟩ => ⟨S2x4096x1024, .f32⟩
  | .hbm, ⟨22, _⟩ => ⟨S2x4096x1024, .f32⟩
  | .hbm, ⟨23, _⟩ => ⟨S_, .f32⟩
  | .hbm, ⟨24, _⟩ => ⟨S2x4096x1024, .f32⟩
  | .hbm, ⟨25, _⟩ => ⟨S2x4096x1024, .f32⟩
  | .hbm, ⟨26, _⟩ => ⟨S2x4096x1024, .f32⟩
  | .hbm, ⟨27, _⟩ => ⟨S_, .f32⟩
  | .hbm, ⟨28, _⟩ => ⟨S2x4096x1024, .f32⟩
  | .hbm, ⟨29, _⟩ => ⟨S2x4096x1024, .f32⟩
  | .hbm, ⟨30, _⟩ => ⟨S_, .f32⟩
  | .hbm, ⟨31, _⟩ => ⟨S2x4096x1024, .f32⟩
  | .hbm, ⟨32, _⟩ => ⟨S2x4096x1024, .f32⟩
  | .hbm, ⟨33, _⟩ => ⟨S2x4096x1024, .f32⟩
  | .hbm, ⟨34, _⟩ => ⟨S1024x1024, .f32⟩
  | .hbm, ⟨35, _⟩ => ⟨S2x4096x1024, .f32⟩
  | .hbm, ⟨36, _⟩ => ⟨S1024, .f32⟩
  | .hbm, ⟨37, _⟩ => ⟨S1x1x1024, .f32⟩
  | .hbm, ⟨38, _⟩ => ⟨S2x4096x1024, .f32⟩
  | .hbm, ⟨39, _⟩ => ⟨S2x4096x1024, .f32⟩
  | .hbm, ⟨40, _⟩ => ⟨S2x4096x1024, .f32⟩
  | .hbm, ⟨41, _⟩ => ⟨S2x4096x1024, .f32⟩
  | .hbm, ⟨42, _⟩ => ⟨S_, .f32⟩
  | .hbm, ⟨43, _⟩ => ⟨S2x4096x1024, .f32⟩
  | .hbm, ⟨44, _⟩ => ⟨S2x4096x1024, .f32⟩
  | .hbm, ⟨45, _⟩ => ⟨S_, .f32⟩
  | .hbm, ⟨46, _⟩ => ⟨S2x4096x1024, .f32⟩
  | .hbm, ⟨47, _⟩ => ⟨S2x4096x1024, .f32⟩
  | .hbm, ⟨48, _⟩ => ⟨S2x4096x1024, .f32⟩
  | .hbm, ⟨49, _⟩ => ⟨S2x4096x2048, .f32⟩
  | .hbm, ⟨50, _⟩ => ⟨S2048x2048, .f32⟩
  | .hbm, ⟨51, _⟩ => ⟨S2x4096x2048, .f32⟩
  | .hbm, ⟨52, _⟩ => ⟨S2x1x2048, .f32⟩
  | .hbm, ⟨53, _⟩ => ⟨S2x4096x2048, .f32⟩
  | .hbm, ⟨54, _⟩ => ⟨S2x4096x2048, .f32⟩
  | .hbm, ⟨55, _⟩ => ⟨S2x4096x2048, .f32⟩
  | .hbm, ⟨56, _⟩ => ⟨S2048, .f32⟩
  | .hbm, ⟨57, _⟩ => ⟨S2x4096x2048, .f32⟩
  | .hbm, ⟨58, _⟩ => ⟨S_, .f32⟩
  | .hbm, ⟨59, _⟩ => ⟨S2x4096, .f32⟩
  | .hbm, ⟨60, _⟩ => ⟨S2x4096x1, .f32⟩
  | .hbm, ⟨61, _⟩ => ⟨S_, .f32⟩
  | .hbm, ⟨62, _⟩ => ⟨S2x4096x1, .f32⟩
  | .hbm, ⟨63, _⟩ => ⟨S2x4096x1, .f32⟩
  | .hbm, ⟨64, _⟩ => ⟨S_, .f32⟩
  | .hbm, ⟨65, _⟩ => ⟨S2x4096x1, .f32⟩
  | .hbm, ⟨66, _⟩ => ⟨S2x4096x1, .f32⟩
  | .hbm, ⟨67, _⟩ => ⟨S2x4096x1, .f32⟩
  | .hbm, ⟨68, _⟩ => ⟨S2x4096x2048, .f32⟩
  | .hbm, ⟨69, _⟩ => ⟨S2x4096x2048, .f32⟩
  | .hbm, ⟨70, _⟩ => ⟨S1x1x2048, .f32⟩
  | .hbm, ⟨71, _⟩ => ⟨S2x4096x2048, .f32⟩
  | .hbm, ⟨72, _⟩ => ⟨S2x4096x2048, .f32⟩
  | .hbm, ⟨73, _⟩ => ⟨S2x1x2048, .f32⟩
  | .hbm, ⟨74, _⟩ => ⟨S_, .f32⟩
  | .hbm, ⟨75, _⟩ => ⟨S2x1x2048, .f32⟩
  | .hbm, ⟨76, _⟩ => ⟨S2x1x2048, .f32⟩
  | .hbm, ⟨77, _⟩ => ⟨S2x4096x2048, .f32⟩
  | .hbm, ⟨78, _⟩ => ⟨S2x4096x2048, .f32⟩
  | .hbm, ⟨79, _⟩ => ⟨S2x1x2048, .f32⟩
  | .hbm, ⟨80, _⟩ => ⟨S2x4096x2048, .f32⟩
  | .hbm, ⟨81, _⟩ => ⟨S2x4096x2048, .f32⟩
  | .hbm, ⟨82, _⟩ => ⟨S8192x2048, .f32⟩
  | .hbm, ⟨83, _⟩ => ⟨S8192x2048, .f32⟩
  | .hbm, ⟨84, _⟩ => ⟨S8192x2048, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_5 : Ref sig .tc := ⟨.hbm, 58, rfl⟩
abbrev main_v44 : Ref sig .tc := ⟨.hbm, 59, rfl⟩
abbrev main_v45 : Ref sig .tc := ⟨.hbm, 60, rfl⟩
abbrev main_cst_6 : Ref sig .tc := ⟨.hbm, 61, rfl⟩
abbrev main_v46 : Ref sig .tc := ⟨.hbm, 62, rfl⟩
abbrev main_v47 : Ref sig .tc := ⟨.hbm, 63, rfl⟩
abbrev main_cst_7 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_8 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩

abbrev nD : Nat := 1
abbrev τ : Topo := Topo.v7x

variable {F : FTy → Type} [FloatOps F]
-- ==== AdaLn.lean ====
abbrev S2x2048 : Shape := ⟨2, ![2, 2048]⟩
abbrev S1x2048x12288 : Shape := ⟨3, ![1, 2048, 12288]⟩
abbrev S1x12288 : Shape := ⟨2, ![1, 12288]⟩
abbrev S2048x12288 : Shape := ⟨2, ![2048, 12288]⟩
abbrev S12288 : Shape := ⟨1, ![12288]⟩
abbrev S2x12288 : Shape := ⟨2, ![2, 12288]⟩
abbrev S2048x1024 : Shape := ⟨2, ![2048, 1024]⟩
abbrev S1x1024 : Shape := ⟨2, ![1, 1024]⟩
abbrev S2x1024 : Shape := ⟨2, ![2, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x2048, .f32⟩
  | .hbm, ⟨1, _⟩ => ⟨S1x2048x12288, .f32⟩
  | .hbm, ⟨2, _⟩ => ⟨S1x12288, .f32⟩
  | .hbm, ⟨3, _⟩ => ⟨S2048x12288, .f32⟩
  | .hbm, ⟨4, _⟩ => ⟨S12288, .f32⟩
  | .hbm, ⟨5, _⟩ => ⟨S1x12288, .f32⟩
  | .hbm, ⟨6, _⟩ => ⟨S2x12288, .f32⟩
  | .local _ .vmem, ⟨0, _⟩ => ⟨S2x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S2x1024, .f32⟩
  | .local _ .vmem, ⟨6, _⟩ => ⟨S2x1024, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaLnReferenceIdeal.lean ====
abbrev S2x2048 : Shape := ⟨2, ![2, 2048]⟩
abbrev S1x2048x12288 : Shape := ⟨3, ![1, 2048, 12288]⟩
abbrev S1x12288 : Shape := ⟨2, ![1, 12288]⟩
abbrev S_ : Shape := ⟨0, ![]⟩
abbrev S2048x12288 : Shape := ⟨2, ![2048, 12288]⟩
abbrev S2x12288 : Shape := ⟨2, ![2, 12288]⟩
abbrev S12288 : Shape := ⟨1, ![12288]⟩

abbrev nBuf : Space → Nat
  | .hbm => 18
  | .vmem => 0
  | .smem => 0
  | _ => 0

abbrev bufTy : (tb : Table) → Fin (tcTables nBuf tb) → BufTy
  | .hbm, ⟨0, _⟩ => ⟨S2x2048, .f32⟩
  | .hbm, ⟨1, _⟩ => ⟨S1x2048x12288, .f32⟩
  | .hbm, ⟨2, _⟩ => ⟨S1x12288, .f32⟩
  | .hbm, ⟨3, _⟩ => ⟨S2x2048, .f32⟩
  | .hbm, ⟨4, _⟩ => ⟨S2x2048, .f32⟩
  | .hbm, ⟨5, _⟩ => ⟨S_, .f32⟩
  | .hbm, ⟨6, _⟩ => ⟨S2x2048, .f32⟩
  | .hbm, ⟨7, _⟩ => ⟨S2x2048, .f32⟩
  | .hbm, ⟨8, _⟩ => ⟨S_, .f32⟩
  | .hbm, ⟨9, _⟩ => ⟨S2x2048, .f32⟩
  | .hbm, ⟨10, _⟩ => ⟨S2x2048, .f32⟩
  | .hbm, ⟨11, _⟩ => ⟨S2x2048, .f32⟩
  | .hbm, ⟨12, _⟩ => ⟨S2048x12288, .f32⟩
  | .hbm, ⟨13, _⟩ => ⟨S2x12288, .f32⟩
  | .hbm, ⟨14, _⟩ => ⟨S12288, .f32⟩
  | .hbm, ⟨15, _⟩ => ⟨S1x12288, .f32⟩
  | .hbm, ⟨16, _⟩ => ⟨S2x12288, .f32⟩
  | .hbm, ⟨17, _⟩ => ⟨S2x12288, .f32⟩
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Proof.KernelIdealRun.lean ====
module

public import proofs.«01_k».proof.Proof.Gen.KernelIdeal.Frame
public import Idealize.ShloMosaic.Lib.Tactic
public import Idealize.ShloMosaic.Lib.Pipeline.Kit

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

set_option maxHeartbeats 0 in
/-- The body run once, at symbolic operands and with its conditionals undecided: what it leaves in the result's block
    and in the seven scratch buffers, and the triple with exactly that. -/
def bodyRun (c : Dev nD) (i : grid0.Coords) (M1 : Memref sig .tc .vmem S512x2048 .bf16) (h1 : M1.IsWhole) (M2 : Memref sig .tc .vmem S16x2048 .bf16) (h2 : M2.IsWhole) (M3 : Memref sig .tc .vmem S2048x512 .bf16) (h3 : M3.IsWhole) (M4 : Memref sig .tc .vmem S2048x512 .bf16) (h4 : M4.IsWhole) (M5 : Memref sig .tc .vmem S3x512 .f32) (h5 : M5.IsWhole) (M6 : Memref sig .tc .vmem S1x512 .f32) (h6 : M6.IsWhole) (M7 : Memref sig .tc .vmem S512x2048 .bf16) (h7 : M7.IsWhole) (M8 : Memref sig .tc .vmem S512x2048 .f32) (h8 : M8.IsWhole) (M9 : Memref sig .tc .vmem S1x1x1x2048 .f32) (h9 : M9.IsWhole) (M10 : Memref sig .tc .vmem S512x2048 .f32) (h10 : M10.IsWhole) (M11 : Memref sig .tc .vmem S528x512 .f32) (h11 : M11.IsWhole) (M12 : Memref sig .tc .vmem S528x512 .f32) (h12 : M12.IsWhole) (M13 : Memref sig .tc .vmem S512x512 .f32) (h13 : M13.IsWhole) (M14 : Memref sig .tc .vmem S512x512 .f32) (h14 : M14.IsWhole) (M15 : Memref sig .tc .vmem S512x512 .bf16) (h15 : M15.IsWhole) (M16 : Memref sig .tc .vmem S512x512 .bf16) (h16 : M16.IsWhole) (M17 : Memref sig .tc .vmem S512x2048 .f32) (h17 : M17.IsWhole) (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16) (f17 : Bf (F := F) c M17) :
    { L : Bf (F := F) c M10 × Bf (F := F) c M11 × Bf (F := F) c M12 × Bf (F := F) c M13 × Bf (F := F) c M14 × Bf (F := F) c M15 × Bf (F := F) c M16 × Bf (F := F) c M17 //
      ∀ Q : PUnit → sProp 𝕄, iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ pt c M17 f17 ∗ (iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 L.1 ∗ pt c M11 L.2.1 ∗ pt c M12 L.2.2.1 ∗ pt c M13 L.2.2.2.1 ∗ pt c M14 L.2.2.2.2.1 ∗ pt c M15 L.2.2.2.2.2.1 ∗ pt c M16 L.2.2.2.2.2.2.1 ∗ pt c M17 L.2.2.2.2.2.2.2) -∗ Q ⟨⟩))
        ⊢ wp frame (wpE (defs₀ (F := F)) Variants.none c none) Set.univ (cc0_conv_ffn i M1 h1 M2 h2 M3 h3 M4 h4 M5 h5 M6 h6 M7 h7 M8 h8 M9 h9 M10 h10 M11 h11 M12 h12 M13 h13 M14 h14 M15 h15 M16 h16 M17 h17) Q } := by
  refine ⟨(?_, ?_, ?_, ?_, ?_, ?_, ?_, ?_), fun Q => ?_⟩
  rotate_left 8
  · iintro ⟨H1, H2, H3, H4, H5, H6, H7, H8, H9, H10, H11, H12, H13, H14, H15, H16, H17, Hk⟩
    sl_exec
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17

end Cert.Proof.KernelIdeal

end
-- ==== Proof.KernelIdealFrame.lean ====
/-
  The frame of `KernelIdeal`: its body leaves each input's block in place, and its seven scratch buffers at what `bodyRun`
  says. An invariant `Inv` of the scratch buffers that the body preserves, and a predicate `Rl` that it establishes of
  the result's block, are parameters: the frame alone takes both to be `True`.
-/
module

public import proofs.«01_k».proof.Proof.KernelIdealRun
public import Idealize.ShloMosaic.Lib.Pipeline.DatRel
public import Idealize.ShloMosaic.Lib.Pipeline.ArrRel

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel)

variable {F : FTy → Type} [FloatOps F]

local notation "𝕄" => MT nD τ sig Unit (Elt F) ℕ (UR sig nD τ) ℕ

/-- The contents of the seven scratch buffers on core `c`. -/
abbrev St (c : Dev nD) : Type := Bf (F := F) c (Memref.whole cc0_scratch0) × Bf (F := F) c (Memref.whole cc0_scratch1) × Bf (F := F) c (Memref.whole cc0_scratch2) × Bf (F := F) c (Memref.whole cc0_scratch3) × Bf (F := F) c (Memref.whole cc0_scratch4) × Bf (F := F) c (Memref.whole cc0_scratch5) × Bf (F := F) c (Memref.whole cc0_scratch6)

/-- The seven scratch buffers held whole at `s`. -/
abbrev pts (c : Dev nD) (s : St (F := F) c) : sProp 𝕄 := iprop(pt c (Memref.whole cc0_scratch0) s.1 ∗ pt c (Memref.whole cc0_scratch1) s.2.1 ∗ pt c (Memref.whole cc0_scratch2) s.2.2.1 ∗ pt c (Memref.whole cc0_scratch3) s.2.2.2.1 ∗ pt c (Memref.whole cc0_scratch4) s.2.2.2.2.1 ∗ pt c (Memref.whole cc0_scratch5) s.2.2.2.2.2.1 ∗ pt c (Memref.whole cc0_scratch6) s.2.2.2.2.2.2)

/-- What the body leaves in the result's block and in the scratch buffers. -/
abbrev next (c : Dev nD) (i : grid0.Coords)
    (M1 : Memref sig .tc .vmem S512x2048 .bf16) (h1 : M1.IsWhole)
    (M2 : Memref sig .tc .vmem S16x2048 .bf16) (h2 : M2.IsWhole)
    (M3 : Memref sig .tc .vmem S2048x512 .bf16) (h3 : M3.IsWhole)
    (M4 : Memref sig .tc .vmem S2048x512 .bf16) (h4 : M4.IsWhole)
    (M5 : Memref sig .tc .vmem S3x512 .f32) (h5 : M5.IsWhole)
    (M6 : Memref sig .tc .vmem S1x512 .f32) (h6 : M6.IsWhole)
    (M7 : Memref sig .tc .vmem S512x2048 .bf16) (h7 : M7.IsWhole)
    (M8 : Memref sig .tc .vmem S512x2048 .f32) (h8 : M8.IsWhole)
    (M9 : Memref sig .tc .vmem S1x1x1x2048 .f32) (h9 : M9.IsWhole)
    (M10 : Memref sig .tc .vmem S512x2048 .f32) (h10 : M10.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (s : St (F := F) c) : Bf (F := F) c M10 × St (F := F) c :=
  (bodyRun c i M1 h1 M2 h2 M3 h3 M4 h4 M5 h5 M6 h6 M7 h7 M8 h8 M9 h9 M10 h10 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) f1 f2 f3 f4 f5 f6 f7 f8 f9 f10 s.1 s.2.1 s.2.2.1 s.2.2.2.1 s.2.2.2.2.1 s.2.2.2.2.2.1 s.2.2.2.2.2.2).1

theorem owns_eq (c : Dev nD) {S : Shape} {e : EltTy} (M : Memref sig .tc .vmem S e) (h : M.IsWhole) (X : S.Idx → Elt F e) :
    (owns (c : Thread nD τ) M fullShare X : sProp 𝕄) = iprop(∃ f : Bf (F := F) c M, ⌜M.view.read (Elt F) f = X⌝ ∗ pt c M f) := by
  unfold owns; rw [h.set_eq_univ]

/-- The body's triple over owned blocks. -/
theorem bodyOwns (c : Dev nD) (i : grid0.Coords)
    (M1 : Memref sig .tc .vmem S512x2048 .bf16) (h1 : M1.IsWhole)
    (M2 : Memref sig .tc .vmem S16x2048 .bf16) (h2 : M2.IsWhole)
    (M3 : Memref sig .tc .vmem S2048x512 .bf16) (h3 : M3.IsWhole)
    (M4 : Memref sig .tc .vmem S2048x512 .bf16) (h4 : M4.IsWhole)
    (M5 : Memref sig .tc .vmem S3x512 .f32) (h5 : M5.IsWhole)
    (M6 : Memref sig .tc .vmem S1x512 .f32) (h6 : M6.IsWhole)
    (M7 : Memref sig .tc .vmem S512x2048 .bf16) (h7 : M7.IsWhole)
    (M8 : Memref sig .tc .vmem S512x2048 .f32) (h8 : M8.IsWhole)
    (M9 : Memref sig .tc .vmem S1x1x1x2048 .f32) (h9 : M9.IsWhole)
    (M10 : Memref sig .tc .vmem S512x2048 .f32) (h10 : M10.IsWhole)
    (X1 : S512x2048.Idx → Elt F .bf16) (X2 : S16x2048.Idx → Elt F .bf16) (X3 : S2048x512.Idx → Elt F .bf16) (X4 : S2048x512.Idx → Elt F .bf16) (X5 : S3x512.Idx → Elt F .f32) (X6 : S1x512.Idx → Elt F .f32) (X7 : S512x2048.Idx → Elt F .bf16) (X8 : S512x2048.Idx → Elt F .f32) (X9 : S1x1x1x2048.Idx → Elt F .f32) (X10 : S512x2048.Idx → Elt F .f32)
    (s : St (F := F) c) (P : St (F := F) c → Prop) (R : (S512x2048.Idx → Elt F .f32) → Prop)
    (H : ∀ f1 f2 f3 f4 f5 f6 f7 f8 f9 f10, M1.view.read (Elt F) f1 = X1 → M2.view.read (Elt F) f2 = X2 → M3.view.read (Elt F) f3 = X3 → M4.view.read (Elt F) f4 = X4 → M5.view.read (Elt F) f5 = X5 → M6.view.read (Elt F) f6 = X6 → M7.view.read (Elt F) f7 = X7 → M8.view.read (Elt F) f8 = X8 → M9.view.read (Elt F) f9 = X9 → M10.view.read (Elt F) f10 = X10 →
      P (next c i M1 h1 M2 h2 M3 h3 M4 h4 M5 h5 M6 h6 M7 h7 M8 h8 M9 h9 M10 h10 f1 f2 f3 f4 f5 f6 f7 f8 f9 f10 s).2 ∧ R (M10.view.read (Elt F) (next c i M1 h1 M2 h2 M3 h3 M4 h4 M5 h5 M6 h6 M7 h7 M8 h8 M9 h9 M10 h10 f1 f2 f3 f4 f5 f6 f7 f8 f9 f10 s).1)) (Q : PUnit → sProp 𝕄) :
    iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9 ∗ owns (c : Thread nD τ) M10 fullShare X10 ∗ pts c s
      ∗ (iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9 ∗ (∃ X, ⌜R X⌝ ∗ owns (c : Thread nD τ) M10 fullShare X) ∗ (∃ s', ⌜P s'⌝ ∗ pts c s')) -∗ Q ⟨⟩))
    ⊢ wp frame (wpE (defs₀ (F := F)) Variants.none c none) Set.univ (cc0_conv_ffn i M1 h1 M2 h2 M3 h3 M4 h4 M5 h5 M6 h6 M7 h7 M8 h8 M9 h9 M10 h10 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _)) Q := by
  simp only [owns_eq c M1 h1, owns_eq c M2 h2, owns_eq c M3 h3, owns_eq c M4 h4, owns_eq c M5 h5, owns_eq c M6 h6, owns_eq c M7 h7, owns_eq c M8 h8, owns_eq c M9 h9, owns_eq c M10 h10]
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, Hs, Hk⟩
  have hPR := H f1 f2 f3 f4 f5 f6 f7 f8 f9 f10 e1 e2 e3 e4 e5 e6 e7 e8 e9 e10
  iapply ((bodyRun c i M1 h1 M2 h2 M3 h3 M4 h4 M5 h5 M6 h6 M7 h7 M8 h8 M9 h9 M10 h10 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) f1 f2 f3 f4 f5 f6 f7 f8 f9 f10 s.1 s.2.1 s.2.2.1 s.2.2.2.1 s.2.2.2.2.1 s.2.2.2.2.2.1 s.2.2.2.2.2.2).2 Q)
  icases Hs with ⟨S0, S1, S2, S3, S4, S5, S6⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  isplitl [S2]; · iexact S2
  isplitl [S3]; · iexact S3
  isplitl [S4]; · iexact S4
  isplitl [S5]; · iexact S5
  isplitl [S6]; · iexact S6
  iintro ⟨H1, H2, H3, H4, H5, H6, H7, H8, H9, H10, S0, S1, S2, S3, S4, S5, S6⟩
  iapply Hk
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists f6; isplitr; · ipureintro; exact e6
    iexact H6
  isplitl [H7]
  · iexists f7; isplitr; · ipureintro; exact e7
    iexact H7
  isplitl [H8]
  · iexists f8; isplitr; · ipureintro; exact e8
    iexact H8
  isplitl [H9]
  · iexists f9; isplitr; · ipureintro; exact e9
    iexact H9
  isplitl [H10]
  · iexists _; isplitr; · ipureintro; exact hPR.2
    iexists _; isplitr; · ipureintro; rfl
    iexact H10
  iexists _; isplitr; · ipureintro; exact hPR.1
  isplitl [S0]; · iexact S0
  isplitl [S1]; · iexact S1
  isplitl [S2]; · iexact S2
  isplitl [S3]; · iexact S3
  isplitl [S4]; · iexact S4
  isplitl [S5]; · iexact S5
  iexact S6

variable (Inv : (c : Dev nD) → ℕ → St (F := F) c → Prop) (Rl : (c : Dev nD) → Fin cfg0.N → (S512x2048.Idx → Elt F .f32) → Prop)
variable (m : (ℓ : Loc nD τ sig) → Buf (Elt F) ℓ) (ρ : Dev nD → PrngReg)

/-- The proof data: the inputs' blocks stay, the scratch buffers meet `Inv` from point to point. -/
def dat (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => iblk m c 6 t
    | 7 => iblk m c 7 t
    | 8 => iblk m c 8 t
    | 9 => Dat.unnamed 9 t
  Φ t := iprop((∃ s : St (F := F) c, ⌜Inv c t.val s⌝ ∗ pts c s) ∗ ∃ r, prngReg c r)
  q w := Pipeline.shareOf spec0 w
  owed _ := 0

/-- The result's window, and it alone, is held to a predicate. -/
abbrev isRes : Fin 10 → Bool := fun | 9 => true | _ => false

/-- The predicate, at the result's window. -/
def rel (c : Dev nD) : (w : Fin cfg0.W) → Fin cfg0.N → ((cfg0.win w).block.Idx → Elt F (cfg0.win w).elt) → Prop
  | 9 => fun t X => Rl c t X
  | _ => fun _ _ => True

abbrev rdat (c : Dev nD) : RDat τ (Elt F) Unit ℕ (UR sig nD τ) ℕ cfg0 c := (dat Inv m c).toRRel isRes (rel Rl c)

theorem A_eq (c : Dev nD) (w : Fin cfg0.W) : (dat Inv m c).A w = V m c (Pipeline.arrRef spec0 w) := by dsimp only [dat]

theorem after0_0 (c : Dev nD) (t : Fin cfg0.N) : (dat Inv m c).after 0 t = iblk m c 0 t := by dsimp only [dat]
theorem before0_0 (c : Dev nD) (t : Fin cfg0.N) (d) : (dat Inv m c).before 0 t d = iblk m c 0 t :=
  before0_0_of m (dat Inv m c) (A_eq Inv m c 0) (after0_0 Inv m c) t d
theorem after0_1 (c : Dev nD) (t : Fin cfg0.N) : (dat Inv m c).after 1 t = iblk m c 1 t := by dsimp only [dat]
theorem before0_1 (c : Dev nD) (t : Fin cfg0.N) (d) : (dat Inv m c).before 1 t d = iblk m c 1 t :=
  before0_1_of m (dat Inv m c) (A_eq Inv m c 1) (after0_1 Inv m c) t d
theorem after0_2 (c : Dev nD) (t : Fin cfg0.N) : (dat Inv m c).after 2 t = iblk m c 2 t := by dsimp only [dat]
theorem before0_2 (c : Dev nD) (t : Fin cfg0.N) (d) : (dat Inv m c).before 2 t d = iblk m c 2 t :=
  before0_2_of m (dat Inv m c) (A_eq Inv m c 2) (after0_2 Inv m c) t d
theorem after0_3 (c : Dev nD) (t : Fin cfg0.N) : (dat Inv m c).after 3 t = iblk m c 3 t := by dsimp only [dat]
theorem before0_3 (c : Dev nD) (t : Fin cfg0.N) (d) : (dat Inv m c).before 3 t d = iblk m c 3 t :=
  before0_3_of m (dat Inv m c) (A_eq Inv m c 3) (after0_3 Inv m c) t d
theorem after0_4 (c : Dev nD) (t : Fin cfg0.N) : (dat Inv m c).after 4 t = iblk m c 4 t := by dsimp only [dat]
theorem before0_4 (c : Dev nD) (t : Fin cfg0.N) (d) : (dat Inv m c).before 4 t d = iblk m c 4 t :=
  before0_4_of m (dat Inv m c) (A_eq Inv m c 4) (after0_4 Inv m c) t d
theorem after0_5 (c : Dev nD) (t : Fin cfg0.N) : (dat Inv m c).after 5 t = iblk m c 5 t := by dsimp only [dat]
theorem before0_5 (c : Dev nD) (t : Fin cfg0.N) (d) : (dat Inv m c).before 5 t d = iblk m c 5 t :=
  before0_5_of m (dat Inv m c) (A_eq Inv m c 5) (after0_5 Inv m c) t d
theorem after0_6 (c : Dev nD) (t : Fin cfg0.N) : (dat Inv m c).after 6 t = iblk m c 6 t := by dsimp only [dat]
theorem before0_6 (c : Dev nD) (t : Fin cfg0.N) (d) : (dat Inv m c).before 6 t d = iblk m c 6 t :=
  before0_6_of m (dat Inv m c) (A_eq Inv m c 6) (after0_6 Inv m c) t d
theorem after0_7 (c : Dev nD) (t : Fin cfg0.N) : (dat Inv m c).after 7 t = iblk m c 7 t := by dsimp only [dat]
theorem before0_7 (c : Dev nD) (t : Fin cfg0.N) (d) : (dat Inv m c).before 7 t d = iblk m c 7 t :=
  before0_7_of m (dat Inv m c) (A_eq Inv m c 7) (after0_7 Inv m c) t d
theorem after0_8 (c : Dev nD) (t : Fin cfg0.N) : (dat Inv m c).after 8 t = iblk m c 8 t := by dsimp only [dat]
theorem before0_8 (c : Dev nD) (t : Fin cfg0.N) (d) : (dat Inv m c).before 8 t d = iblk m c 8 t :=
  before0_8_of m (dat Inv m c) (A_eq Inv m c 8) (after0_8 Inv m c) t d

def bodyPre (c : Dev nD) (t : Fin cfg0.N) : sProp 𝕄 :=
  iprop((dat Inv m c).Φ t.castSucc ∗ (dat Inv m c).owesAt () t.castSucc
    ∗ (∃ d, owns (c : Thread nD τ) (st0_0 t) fullShare ((dat Inv m c).before 0 t d))
    ∗ (∃ d, owns (c : Thread nD τ) (st0_1 t) fullShare ((dat Inv m c).before 1 t d))
    ∗ (∃ d, owns (c : Thread nD τ) (st0_2 t) fullShare ((dat Inv m c).before 2 t d))
    ∗ (∃ d, owns (c : Thread nD τ) (st0_3 t) fullShare ((dat Inv m c).before 3 t d))
    ∗ (∃ d, owns (c : Thread nD τ) (st0_4 t) fullShare ((dat Inv m c).before 4 t d))
    ∗ (∃ d, owns (c : Thread nD τ) (st0_5 t) fullShare ((dat Inv m c).before 5 t d))
    ∗ (∃ d, owns (c : Thread nD τ) (st0_6 t) fullShare ((dat Inv m c).before 6 t d))
    ∗ (∃ d, owns (c : Thread nD τ) (st0_7 t) fullShare ((dat Inv m c).before 7 t d))
    ∗ (∃ d, owns (c : Thread nD τ) (st0_8 t) fullShare ((dat Inv m c).before 8 t d))
    ∗ (∃ Y, ⌜(rdat Inv Rl m c).Finds 9 t Y⌝ ∗ owns (c : Thread nD τ) (st0_9 t) fullShare Y))

def bodyPost (c : Dev nD) (t : Fin cfg0.N) : sProp 𝕄 :=
  iprop((dat Inv m c).Φ t.succ ∗ (dat Inv m c).owesAt () t.succ
    ∗ owns (c : Thread nD τ) (st0_0 t) fullShare ((dat Inv m c).after 0 t)
    ∗ owns (c : Thread nD τ) (st0_1 t) fullShare ((dat Inv m c).after 1 t)
    ∗ owns (c : Thread nD τ) (st0_2 t) fullShare ((dat Inv m c).after 2 t)
    ∗ owns (c : Thread nD τ) (st0_3 t) fullShare ((dat Inv m c).after 3 t)
    ∗ owns (c : Thread nD τ) (st0_4 t) fullShare ((dat Inv m c).after 4 t)
    ∗ owns (c : Thread nD τ) (st0_5 t) fullShare ((dat Inv m c).after 5 t)
    ∗ owns (c : Thread nD τ) (st0_6 t) fullShare ((dat Inv m c).after 6 t)
    ∗ owns (c : Thread nD τ) (st0_7 t) fullShare ((dat Inv m c).after 7 t)
    ∗ owns (c : Thread nD τ) (st0_8 t) fullShare ((dat Inv m c).after 8 t)
    ∗ (∃ X, ⌜rel Rl c 9 t X⌝ ∗ owns (c : Thread nD τ) (st0_9 t) fullShare X))

/-- What the body must do at a point for `Inv` to be kept and `Rl` met. -/
def Keeps : Prop := ∀ (c : Dev nD) (t : Fin cfg0.N)
    (M1 : Memref sig .tc .vmem S512x2048 .bf16) (h1 : M1.IsWhole)
    (M2 : Memref sig .tc .vmem S16x2048 .bf16) (h2 : M2.IsWhole)
    (M3 : Memref sig .tc .vmem S2048x512 .bf16) (h3 : M3.IsWhole)
    (M4 : Memref sig .tc .vmem S2048x512 .bf16) (h4 : M4.IsWhole)
    (M5 : Memref sig .tc .vmem S3x512 .f32) (h5 : M5.IsWhole)
    (M6 : Memref sig .tc .vmem S1x512 .f32) (h6 : M6.IsWhole)
    (M7 : Memref sig .tc .vmem S512x2048 .bf16) (h7 : M7.IsWhole)
    (M8 : Memref sig .tc .vmem S512x2048 .f32) (h8 : M8.IsWhole)
    (M9 : Memref sig .tc .vmem S1x1x1x2048 .f32) (h9 : M9.IsWhole)
    (M10 : Memref sig .tc .vmem S512x2048 .f32) (h10 : M10.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (s : St (F := F) c), M1.view.read (Elt F) f1 = iblk m c 0 t → M2.view.read (Elt F) f2 = iblk m c 1 t → M3.view.read (Elt F) f3 = iblk m c 2 t → M4.view.read (Elt F) f4 = iblk m c 3 t → M5.view.read (Elt F) f5 = iblk m c 4 t → M6.view.read (Elt F) f6 = iblk m c 5 t → M7.view.read (Elt F) f7 = iblk m c 6 t → M8.view.read (Elt F) f8 = iblk m c 7 t → M9.view.read (Elt F) f9 = iblk m c 8 t → Inv c t.val s →
    Inv c (t.val + 1) (next c (grid0.coords t) M1 h1 M2 h2 M3 h3 M4 h4 M5 h5 M6 h6 M7 h7 M8 h8 M9 h9 M10 h10 f1 f2 f3 f4 f5 f6 f7 f8 f9 f10 s).2
      ∧ Rl c t (M10.view.read (Elt F) (next c (grid0.coords t) M1 h1 M2 h2 M3 h3 M4 h4 M5 h5 M6 h6 M7 h7 M8 h8 M9 h9 M10 h10 f1 f2 f3 f4 f5 f6 f7 f8 f9 f10 s).1)

variable {Inv Rl m}

theorem soundBody (hK : Keeps Inv Rl m) (c : Dev nD) (t : Fin cfg0.N) :
    bodyPre Inv Rl m c t ⊢ wp frame (wpE (defs₀ (F := F)) Variants.none c none) Set.univ (bodyAt0 t) (fun _ => bodyPost Inv Rl m c t) := by
  unfold bodyPre bodyPost bodyAt0
  simp only [before0_0, before0_1, before0_2, before0_3, before0_4, before0_5, before0_6, before0_7, before0_8]
  rw [show (dat Inv m c).owesAt () t.succ = (dat Inv m c).owesAt () t.castSucc from rfl,
    after0_0, after0_1, after0_2, after0_3, after0_4, after0_5, after0_6, after0_7, after0_8]
  dsimp only [dat]
  iintro ⟨⟨⟨%s, %hs, Hs⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%Y, %hY, H9⟩⟩
  iapply (bodyOwns c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (iblk m c 0 t) (iblk m c 1 t) (iblk m c 2 t) (iblk m c 3 t) (iblk m c 4 t) (iblk m c 5 t) (iblk m c 6 t) (iblk m c 7 t) (iblk m c 8 t) Y s (Inv c (t.val + 1)) (Rl c t)
    (fun f1 f2 f3 f4 f5 f6 f7 f8 f9 f10 e1 e2 e3 e4 e5 e6 e7 e8 e9 _ => hK c t _ _ _ _ _ _ _ _ _ _ _ _ _ _ _ _ _ _ _ _ f1 f2 f3 f4 f5 f6 f7 f8 f9 f10 s e1 e2 e3 e4 e5 e6 e7 e8 e9 hs) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [Hs]; · iexact Hs
  iintro ⟨H0, H1, H2, H3, H4, H5, H6, H7, H8, HX, HS⟩
  isplitl [HS Hr]
  · isplitl [HS]; · iexact HS
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact HX

theorem defs₀_row (t : Fin cfg0.N) : defs₀ (F := F) .tc cfg0.body (cfg0.bodyArgs t (cfg0.slots t)) = bodyAt0 t := by
  unfold defs₀; rw [Defs.onTc_tc]

theorem bodyObligation (hK : Keeps Inv Rl m) (c : Dev nD) :
    BodyObligationRel (dat Inv m c) (defs₀ (F := F)) Variants.none () Set.univ isRes (rel Rl c) := fun t => by
  rw [bigSep_W0, bigSep_W0, defs₀_row]
  exact triple_restated (soundBody hK c t) rfl .rfl fun _ => .rfl

theorem scratch_split (c : Dev nD) :
    (Pipeline.ΦA spec0 c : sProp 𝕄) ⊣⊢ iprop((∃ s : St (F := F) c, pts c s) ∗ ∃ r, prngReg c r) := by
  unfold Pipeline.ΦA; rw [scopedRest0_eq]
  refine ⟨?_, ?_⟩
  · iintro ⟨⟨⟨%s0, S0⟩, ⟨%s1, S1⟩, ⟨%s2, S2⟩, ⟨%s3, S3⟩, ⟨%s4, S4⟩, ⟨%s5, S5⟩, ⟨%s6, S6⟩⟩, Hr⟩
    isplitr [Hr]
    · iexists (s0, s1, s2, s3, s4, s5, s6)
      isplitl [S0]; · iexact S0
      isplitl [S1]; · iexact S1
      isplitl [S2]; · iexact S2
      isplitl [S3]; · iexact S3
      isplitl [S4]; · iexact S4
      isplitl [S5]; · iexact S5
      iexact S6
    · iexact Hr
  · iintro ⟨⟨%s, S0, S1, S2, S3, S4, S5, S6⟩, Hr⟩
    isplitr [Hr]
    · isplitl [S0]; · iexists _; iexact S0
      isplitl [S1]; · iexists _; iexact S1
      isplitl [S2]; · iexists _; iexact S2
      isplitl [S3]; · iexists _; iexact S3
      isplitl [S4]; · iexists _; iexact S4
      isplitl [S5]; · iexists _; iexact S5
      iexists _; iexact S6
    · iexact Hr

set_option backward.isDefEq.respectTransparency.types false in
set_option maxHeartbeats 800000 in
/-- Every execution of @main terminates, the counters at zero, with the arrays as the relational data say. -/
theorem run_main (h0 : ∀ c s, Inv c 0 s) (hK : Keeps Inv Rl m) :
    θ_run defs (onTc (τ := τ) (main (F := F))) (s₀ m ρ)
      (fun r => RDat.FramePost cfg0 (rdat Inv Rl m) (V m) r ∧ r.2.sem = fun _ => 0) :=
  Pipeline.RDat.θ_run_frame_track_shared cfgs (0 : Fin 1) launch₀0 defs₀ Variants.none (rdat Inv Rl m) m ρ main
    (hbody := fun c => (bodyObligation hK c).toRRel) (hq := fun _ _ _ => rfl)
    (howed := fun _ _ => rfl) (V := V m) (hmain := hmain m Variants.none) (hA := A_eq Inv m)
    (hin := fun c => (scratch_split c).1.trans (by
      show _ ⊢ (dat Inv m c).Φ 0
      dsimp only [dat]
      iintro ⟨⟨%s, Hs⟩, Hr⟩
      isplitl [Hs]
      · iexists s; isplitr; · ipureintro; exact h0 c s
        iexact Hs
      · iexact Hr))
    (hout := fun c => BIBase.Entails.trans (by
      show (dat Inv m c).Φ _ ⊢ _
      dsimp only [dat]
      iintro ⟨⟨%s, %_, Hs⟩, Hr⟩
      isplitl [Hs]
      · iexists s; iexact Hs
      · iexact Hr) (scratch_split c).2)
    (Q' := fun r => RDat.FramePost cfg0 (rdat Inv Rl m) (V m) r ∧ r.2.sem = fun _ => 0)
    (hQ' := fun _ h => h)

/-- The arguments at the end of a run, from its post. -/
theorem args_of {r : PUnit × MemSt nD τ sig (Elt F)} (h : RDat.FramePost cfg0 (rdat Inv Rl m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h.arr_in (c := c) 1 rfl).trans (A_eq Inv m c 1)).trans (V_main_arg0 m c),
   ((h.arr_in (c := c) 7 rfl).trans (A_eq Inv m c 7)).trans (V_main_arg1 m c),
   ((h c).2 main_arg2 (Pipeline.mem_restRefs_of main_arg2 (by decide) (by decide))).trans (V_main_arg2 m c),
   ((h c).2 main_arg3 (Pipeline.mem_restRefs_of main_arg3 (by decide) (by decide))).trans (V_main_arg3 m c),
   ((h c).2 main_arg4 (Pipeline.mem_restRefs_of main_arg4 (by decide) (by decide))).trans (V_main_arg4 m c),
   ((h c).2 main_arg5 (Pipeline.mem_restRefs_of main_arg5 (by decide) (by decide))).trans (V_main_arg5 m c),
   ((h c).2 main_arg6 (Pipeline.mem_restRefs_of main_arg6 (by decide) (by decide))).trans (V_main_arg6 m c)⟩

variable (m)

/-- The frame: every execution terminates, the arguments as launched and the counters at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => args_of h.1 c, h.2⟩)
    (run_main (Inv := fun _ _ _ => True) (Rl := fun _ _ _ => True) ρ (fun _ _ => trivial) (fun _ _ => by intros; exact ⟨trivial, trivial⟩))

end Cert.Proof.KernelIdeal

end
-- ==== Proof.KernelChunks.lean ====
/-
  The body's arithmetic read at an index, over the extended reals: one function per kind of chunk the body stores, and
  what each is worth at a row and a column.
-/
module

public import proofs.«01_k».proof.Proof.Gen.KernelIdeal.Frame
public import Idealize.ShloMosaic.Lib.Pointwise

@[expose] public section

set_option maxRecDepth 16384

noncomputable section

namespace Cert.Proof.KernelIdeal

open Cert.KernelIdeal Cert.KernelIdeal.Gen
open Idealize.ShloMosaic

/-- The tanh form of the Gaussian linear unit. -/
def gelu (x : EReal) : EReal :=
  x * (Ideal.ofBits .f32 1056964608#32 * (1 + Ideal.tanh (Ideal.ofBits .f32 1061962282#32 * (x + Ideal.ofBits .f32 1027024659#32 * (x * (x * x))))))

/-- 256 columns of the up projection of a block under its halo. -/
def upTower (X1 : FVec Ideal S512x2048 .bf16) (X2 : FVec Ideal S16x2048 .bf16) (z : BitVec 1) (w : FVec Ideal S2048x256 .bf16) : FVec Ideal S528x256 .f32 :=
  shapeCast S528x256 (matmul dot_S528x2048_S2048x256_S528x256_1_0_0_1_n_n none
    (concatenate S528x2048 0 [⟨S16x2048, Scalar.select z (broadcast S16x2048 (FloatOps.ofBits (F := Ideal) .bf16 0#16)) X2⟩, ⟨S512x2048, X1⟩] concatenates_S16x2048_S512x2048_S528x2048_d0)
    (shapeCast S2048x256 w shapeCasts_S2048x256_S2048x256) (constant S528x256 .f32 0#32)) shapeCasts_S528x256_S528x256

theorem upTower_apply (X1 : FVec Ideal S512x2048 .bf16) (X2 : FVec Ideal S16x2048 .bf16) (z : BitVec 1) (w : FVec Ideal S2048x256 .bf16) (r : Fin 528) (l : Fin 256) :
    upTower X1 X2 z w (ix2 r l) = ∑ k : Fin 2048, (if h : r.val < 16 then Scalar.select z (0 : EReal) (X2 (ix2 ⟨r.val, h⟩ k)) else X1 (ix2 ⟨r.val - 16, by omega⟩ k)) * w (ix2 k l) := by
  pointwise [upTower]

/-- 256 columns of the gate's projection of a block. -/
def gateTower (X1 : FVec Ideal S512x2048 .bf16) (w : FVec Ideal S2048x256 .bf16) : FVec Ideal S512x256 .f32 :=
  shapeCast S512x256 (matmul dot_S512x2048_S2048x256_S512x256_1_0_0_1_n_n none X1 (shapeCast S2048x256 w shapeCasts_S2048x256_S2048x256) (constant S512x256 .f32 0#32)) shapeCasts_S512x256_S512x256

theorem gateTower_apply (X1 : FVec Ideal S512x2048 .bf16) (w : FVec Ideal S2048x256 .bf16) (r : Fin 512) (l : Fin 256) :
    gateTower X1 w (ix2 r l) = ∑ k : Fin 2048, X1 (ix2 r k) * w (ix2 k l) := by
  pointwise [gateTower]

/-- 512 columns of the down projection of a block, added to what was there. -/
def downTower (A : FVec Ideal S512x512 .f32) (X : FVec Ideal S512x512 .bf16) (w : FVec Ideal S512x512 .bf16) : FVec Ideal S512x512 .f32 :=
  shapeCast S512x512 (addf A (matmul dot_S512x512_S512x512_S512x512_1_0_0_1_n_n none X (shapeCast S512x512 w shapeCasts_S512x512_S512x512) (constant S512x512 .f32 0#32))) shapeCasts_S512x512_S512x512

theorem downTower_apply (A : FVec Ideal S512x512 .f32) (X : FVec Ideal S512x512 .bf16) (w : FVec Ideal S512x512 .bf16) (r l : Fin 512) :
    downTower A X w (ix2 r l) = A (ix2 r l) + ∑ k : Fin 512, X (ix2 r k) * w (ix2 k l) := by
  pointwise [downTower]

/-- 64 rows of the convolution, the activation and the gate. -/
def actTower (w : FVec Ideal S3x512 .f32) (b : FVec Ideal S1x512 .f32) (x2 x1 x0 g : FVec Ideal S64x512 .f32) : FVec Ideal S64x512 .bf16 :=
  have w' : FVec Ideal S3x512 .f32 := shapeCast S3x512 w shapeCasts_S3x512_S3x512
  have b' : FVec Ideal S1x512 .f32 := shapeCast S1x512 b shapeCasts_S1x512_S1x512
  have y : FVec Ideal S64x512 .f32 := addf (addf (addf
      (mulf (broadcastTo S64x512 (extractStridedSlice S1x512 ![2, 0] w' slices_S3x512_o2_0_S1x512) broadcasts_S1x512_S64x512) x2)
      (mulf (broadcastTo S64x512 (extractStridedSlice S1x512 ![1, 0] w' slices_S3x512_o1_0_S1x512) broadcasts_S1x512_S64x512) x1))
      (mulf (broadcastTo S64x512 (extractStridedSlice S1x512 ![0, 0] w' slices_S3x512_o0_0_S1x512) broadcasts_S1x512_S64x512) x0))
      (broadcastTo S64x512 b' broadcasts_S1x512_S64x512)
  have t : FVec Ideal S64x512 .f32 := tanh (mulf (broadcast S64x512 (FloatOps.ofBits (F := Ideal) .f32 1061962282#32)) (addf y (mulf (broadcast S64x512 (FloatOps.ofBits (F := Ideal) .f32 1027024659#32)) (mulf y (mulf y y)))))
  shapeCast S64x512 (truncf .bf16 (mulf (mulf y (mulf (broadcast S64x512 (FloatOps.ofBits (F := Ideal) .f32 1056964608#32)) (addf (broadcast S64x512 (FloatOps.ofBits (F := Ideal) .f32 1065353216#32)) t))) g) bitsLt_bf16_f32) shapeCasts_S64x512_S64x512

theorem actTower_apply (w : FVec Ideal S3x512 .f32) (b : FVec Ideal S1x512 .f32) (x2 x1 x0 g : FVec Ideal S64x512 .f32) (r : Fin 64) (l : Fin 512) :
    actTower w b x2 x1 x0 g (ix2 r l) = gelu (w (ix2 2 l) * x2 (ix2 r l) + w (ix2 1 l) * x1 (ix2 r l) + w (ix2 0 l) * x0 (ix2 r l) + b (ix2 0 l)) * g (ix2 r l) := by
  pointwise [actTower, gelu]

/-- The result's block: the residual and the gated sum. -/
def outTower (x : FVec Ideal S512x2048 .f32) (g : FVec Ideal S1x1x1x2048 .f32) (A : FVec Ideal S512x2048 .f32) : FVec Ideal S512x2048 .f32 :=
  addf x (mulf (broadcastTo S512x2048 (shapeCast S1x2048 g shapeCasts_S1x1x1x2048_S1x2048) broadcasts_S1x2048_S512x2048) A)

theorem outTower_apply (x : FVec Ideal S512x2048 .f32) (g : FVec Ideal S1x1x1x2048 .f32) (A : FVec Ideal S512x2048 .f32) (r : Fin 512) (l : Fin 2048) :
    outTower x g A (ix2 r l) = x (ix2 r l) + g (ix4 0 0 0 l) * A (ix2 r l) := by
  pointwise [outTower]

end Cert.Proof.KernelIdeal

end
-- ==== Proof.KernelPieces.lean ====
/-
  A chunk the body stores is its part of one function of the whole block: the projections, the activation and the sum,
  and each kind of chunk against it.
-/
module

public import proofs.«01_k».proof.Proof.KernelChunks
public import Idealize.ShloMosaic.Lib.VecWindow
public import Idealize.ShloMosaic.Lib.WritesUnit

@[expose] public section

set_option maxRecDepth 16384

noncomputable section

namespace Cert.Proof.KernelIdeal

open Cert.KernelIdeal Cert.KernelIdeal.Gen
open Idealize.ShloMosaic Idealize.ShloMosaic.TcCoe

/-- The up projection of a block under its halo, the halo zero when `z` says so. -/
def upVec (X1 : FVec Ideal S512x2048 .bf16) (X2 : FVec Ideal S16x2048 .bf16) (z : BitVec 1) (X3 : FVec Ideal S2048x512 .bf16) : FVec Ideal S528x512 .f32 := fun y =>
  ∑ k : Fin 2048, (if h : (y 0).val < 16 then Scalar.select z (0 : EReal) (X2 (ix2 ⟨(y 0).val, h⟩ k)) else X1 (ix2 ⟨(y 0).val - 16, by have : (y 0).val < 528 := (y 0).isLt; omega⟩ k)) * X3 (ix2 k (y 1))

/-- The gate's projection of a block. -/
def gateVec (X1 : FVec Ideal S512x2048 .bf16) (X4 : FVec Ideal S2048x512 .bf16) : FVec Ideal S512x512 .f32 := fun y =>
  ∑ k : Fin 2048, X1 (ix2 (y 0) k) * X4 (ix2 k (y 1))

/-- Row `o` places below row `r`. -/
abbrev below (o : ℕ) (ho : o ≤ 16) (r : Fin 512) : Fin 528 := ⟨o + r.val, by omega⟩

/-- The convolution over three rows, the activation and the gate. -/
def actVec (w : FVec Ideal S3x512 .f32) (b : FVec Ideal S1x512 .f32) (A : FVec Ideal S528x512 .f32) (G : FVec Ideal S512x512 .f32) : FVec Ideal S512x512 .bf16 := fun y =>
  gelu (w (ix2 2 (y 1)) * A (ix2 (below 16 (by omega) (y 0)) (y 1)) + w (ix2 1 (y 1)) * A (ix2 (below 15 (by omega) (y 0)) (y 1))
    + w (ix2 0 (y 1)) * A (ix2 (below 14 (by omega) (y 0)) (y 1)) + b (ix2 0 (y 1))) * G y

/-- The down projection of a block, added to `A`. -/
def downVec (A : FVec Ideal S512x2048 .f32) (X : FVec Ideal S512x512 .bf16) (w : FVec Ideal S512x2048 .bf16) : FVec Ideal S512x2048 .f32 := fun y =>
  A y + ∑ k : Fin 512, X (ix2 (y 0) k) * w (ix2 k (y 1))

/-- A chunk of a two-axis block read at an index. -/
theorem window_apply {d0 d1 n m : ℕ} (X : (⟨2, ![d0, d1]⟩ : Shape).Idx → EReal) (p o : ℕ)
    (ho : ∀ a, (![p, o] : Fin 2 → ℕ) a + (![n, m] : Fin 2 → ℕ) a ≤ (![d0, d1] : Fin 2 → ℕ) a) (r : Fin n) (l : Fin m) (r' : Fin d0) (l' : Fin d1)
    (e0 : r'.val = p + r.val) (e1 : l'.val = o + l.val) :
    VecWindow.window X ![p, o] ![n, m] ho (ix2 r l) = X (ix2 r' l') := by
  refine congrArg X (funext fun a => Fin.ext ?_)
  match a with
  | ⟨0, _⟩ => exact (congrArg (p + ·) (Nat.one_mul _)).trans e0.symm
  | ⟨1, _⟩ => exact (congrArg (o + ·) (Nat.one_mul _)).trans e1.symm

theorem up_piece (M1 : View sig .tc .vmem S512x2048 .bf16) (M2 : View sig .tc .vmem S16x2048 .bf16) (M3 : View sig .tc .vmem S2048x512 .bf16)
    (f1 : M1.ty.Contents (Elt Ideal)) (f2 : M2.ty.Contents (Elt Ideal)) (f3 : M3.ty.Contents (Elt Ideal)) (z : BitVec 1) (i1 i2) (o : ℕ)
    (ho : ∀ a, (![0, o] : Fin 2 → ℕ) a + S2048x256.size a ≤ S2048x512.size a) (x : S528x256.Idx) (y : S528x512.Idx)
    (e0 : (y 0).val = (x 0).val) (e1 : (y 1).val = o + (x 1).val) :
    upTower (M1.readAt (Elt Ideal) (Rect.unit (s := S512x2048) ![0, 0] S512x2048.size i1).toLoadRect f1) (M2.readAt (Elt Ideal) (Rect.unit (s := S16x2048) ![0, 0] S16x2048.size i2).toLoadRect f2) z
        (M3.readAt (Elt Ideal) (Rect.unit (s := S2048x512) ![0, o] S2048x256.size ho).toLoadRect f3) x
      = upVec (M1.read (Elt Ideal) f1) (M2.read (Elt Ideal) f2) z (M3.read (Elt Ideal) f3) y := by
  rw [View.readAt_full, View.readAt_full, View.readAt_unit _ _ _ rfl ho]
  idx_vars x
  idx_vars y
  rw [upTower_apply]
  unfold upVec
  obtain rfl : y0 = x0 := Fin.ext e0
  exact Finset.sum_congr rfl fun k _ => congrArg _ (window_apply _ 0 o ho k x1 k y1 (Nat.zero_add _).symm e1)

theorem gate_piece (M1 : View sig .tc .vmem S512x2048 .bf16) (M4 : View sig .tc .vmem S2048x512 .bf16)
    (f1 : M1.ty.Contents (Elt Ideal)) (f4 : M4.ty.Contents (Elt Ideal)) (i1) (o : ℕ)
    (ho : ∀ a, (![0, o] : Fin 2 → ℕ) a + S2048x256.size a ≤ S2048x512.size a) (x : S512x256.Idx) (y : S512x512.Idx)
    (e0 : (y 0).val = (x 0).val) (e1 : (y 1).val = o + (x 1).val) :
    gateTower (M1.readAt (Elt Ideal) (Rect.unit (s := S512x2048) ![0, 0] S512x2048.size i1).toLoadRect f1)
        (M4.readAt (Elt Ideal) (Rect.unit (s := S2048x512) ![0, o] S2048x256.size ho).toLoadRect f4) x
      = gateVec (M1.read (Elt Ideal) f1) (M4.read (Elt Ideal) f4) y := by
  rw [View.readAt_full, View.readAt_unit _ _ _ rfl ho]
  idx_vars x
  idx_vars y
  rw [gateTower_apply]
  unfold gateVec
  obtain rfl : y0 = x0 := Fin.ext e0
  exact Finset.sum_congr rfl fun k _ => congrArg _ (window_apply _ 0 o ho k x1 k y1 (Nat.zero_add _).symm e1)

theorem down_piece (A : View sig .tc .vmem S512x2048 .f32) (X : View sig .tc .vmem S512x512 .bf16) (W : View sig .tc .vmem S512x2048 .bf16)
    (fA : A.ty.Contents (Elt Ideal)) (fX : X.ty.Contents (Elt Ideal)) (fW : W.ty.Contents (Elt Ideal)) (iX) (o : ℕ)
    (ho : ∀ a, (![0, o] : Fin 2 → ℕ) a + S512x512.size a ≤ S512x2048.size a) (x : S512x512.Idx) (y : S512x2048.Idx)
    (e0 : (y 0).val = (x 0).val) (e1 : (y 1).val = o + (x 1).val) :
    downTower (A.readAt (Elt Ideal) (Rect.unit (s := S512x2048) ![0, o] S512x512.size ho).toLoadRect fA)
        (X.readAt (Elt Ideal) (Rect.unit (s := S512x512) ![0, 0] S512x512.size iX).toLoadRect fX)
        (W.readAt (Elt Ideal) (Rect.unit (s := S512x2048) ![0, o] S512x512.size ho).toLoadRect fW) x
      = downVec (A.read (Elt Ideal) fA) (X.read (Elt Ideal) fX) (W.read (Elt Ideal) fW) y := by
  rw [View.readAt_full, View.readAt_unit _ _ _ rfl ho, View.readAt_unit _ _ _ rfl ho]
  idx_vars x
  idx_vars y
  rw [downTower_apply]
  unfold downVec
  obtain rfl : y0 = x0 := Fin.ext e0
  exact congrArg₂ (· + ·) (window_apply _ 0 o ho y0 x1 y0 y1 (Nat.zero_add _).symm e1)
    (Finset.sum_congr rfl fun k _ => congrArg _ (window_apply _ 0 o ho k x1 k y1 (Nat.zero_add _).symm e1))

theorem act_piece (W : View sig .tc .vmem S3x512 .f32) (b : View sig .tc .vmem S1x512 .f32) (A : View sig .tc .vmem S528x512 .f32) (G : View sig .tc .vmem S512x512 .f32)
    (fW : W.ty.Contents (Elt Ideal)) (fb : b.ty.Contents (Elt Ideal)) (fA : A.ty.Contents (Elt Ideal)) (fG : G.ty.Contents (Elt Ideal)) (iW ib) (o : ℕ)
    (o2 : ∀ a, (![16 + o, 0] : Fin 2 → ℕ) a + S64x512.size a ≤ S528x512.size a) (o1 : ∀ a, (![15 + o, 0] : Fin 2 → ℕ) a + S64x512.size a ≤ S528x512.size a)
    (o0 : ∀ a, (![14 + o, 0] : Fin 2 → ℕ) a + S64x512.size a ≤ S528x512.size a) (og : ∀ a, (![o, 0] : Fin 2 → ℕ) a + S64x512.size a ≤ S512x512.size a)
    (x : S64x512.Idx) (y : S512x512.Idx) (e0 : (y 0).val = o + (x 0).val) (e1 : (y 1).val = (x 1).val) :
    actTower (W.readAt (Elt Ideal) (Rect.unit (s := S3x512) ![0, 0] S3x512.size iW).toLoadRect fW) (b.readAt (Elt Ideal) (Rect.unit (s := S1x512) ![0, 0] S1x512.size ib).toLoadRect fb)
        (A.readAt (Elt Ideal) (Rect.unit (s := S528x512) ![16 + o, 0] S64x512.size o2).toLoadRect fA)
        (A.readAt (Elt Ideal) (Rect.unit (s := S528x512) ![15 + o, 0] S64x512.size o1).toLoadRect fA)
        (A.readAt (Elt Ideal) (Rect.unit (s := S528x512) ![14 + o, 0] S64x512.size o0).toLoadRect fA)
        (G.readAt (Elt Ideal) (Rect.unit (s := S512x512) ![o, 0] S64x512.size og).toLoadRect fG) x
      = actVec (W.read (Elt Ideal) fW) (b.read (Elt Ideal) fb) (A.read (Elt Ideal) fA) (G.read (Elt Ideal) fG) y := by
  rw [View.readAt_full, View.readAt_full, View.readAt_unit _ _ _ rfl o2, View.readAt_unit _ _ _ rfl o1, View.readAt_unit _ _ _ rfl o0, View.readAt_unit _ _ _ rfl og]
  idx_vars x
  idx_vars y
  rw [actTower_apply]
  unfold actVec
  obtain rfl : y1 = x1 := Fin.ext e1
  have e0 : y0.val = o + x0.val := e0
  rw [window_apply _ (16 + o) 0 o2 x0 y1 (below 16 (by omega) y0) y1 (by show 16 + y0.val = _; omega) (Nat.zero_add _).symm,
    window_apply _ (15 + o) 0 o1 x0 y1 (below 15 (by omega) y0) y1 (by show 15 + y0.val = _; omega) (Nat.zero_add _).symm,
    window_apply _ (14 + o) 0 o0 x0 y1 (below 14 (by omega) y0) y1 (by show 14 + y0.val = _; omega) (Nat.zero_add _).symm,
    window_apply _ o 0 og x0 y1 y0 y1 e0 (Nat.zero_add _).symm]
  rfl

/-- The result's block. -/
def outVec (x : FVec Ideal S512x2048 .f32) (g : FVec Ideal S1x1x1x2048 .f32) (A : FVec Ideal S512x2048 .f32) : FVec Ideal S512x2048 .f32 := fun y =>
  x y + g (ix4 0 0 0 (y 1)) * A y

theorem out_piece (X : View sig .tc .vmem S512x2048 .f32) (g : View sig .tc .vmem S1x1x1x2048 .f32) (A : View sig .tc .vmem S512x2048 .f32)
    (fX : X.ty.Contents (Elt Ideal)) (fg : g.ty.Contents (Elt Ideal)) (fA : A.ty.Contents (Elt Ideal)) (iX ig iA) :
    outTower (X.readAt (Elt Ideal) (Rect.unit (s := S512x2048) ![0, 0] S512x2048.size iX).toLoadRect fX)
        (g.readAt (Elt Ideal) (Rect.unit (s := S1x1x1x2048) ![0, 0, 0, 0] S1x1x1x2048.size ig).toLoadRect fg)
        (A.readAt (Elt Ideal) (Rect.unit (s := S512x2048) ![0, 0] S512x2048.size iA).toLoadRect fA)
      = outVec (X.read (Elt Ideal) fX) (g.read (Elt Ideal) fg) (A.read (Elt Ideal) fA) := by
  rw [View.readAt_full, View.readAt_full, View.readAt_full]
  funext y
  idx_vars y
  rw [outTower_apply]
  rfl

end Cert.Proof.KernelIdeal

end
-- ==== Proof.KernelStep.lean ====
/-
  One point of the grid: what the body leaves in each scratch buffer and in the result's block, in terms of what it finds.
-/
module

public import proofs.«01_k».proof.Proof.KernelIdealFrame
public import proofs.«01_k».proof.Proof.KernelPieces

@[expose] public section

set_option maxRecDepth 16384
set_option maxHeartbeats 3200000

noncomputable section

namespace Cert.Proof.KernelIdeal

open Cert.KernelIdeal Cert.KernelIdeal.Gen
open Idealize.ShloMosaic Idealize.ShloMosaic.TcCoe

/-- The blocks one point finds: where each lies and what it holds. -/
structure Blocks (c : Dev nD) where
  M1 : Memref sig .tc .vmem S512x2048 .bf16
  h1 : M1.IsWhole
  f1 : Bf (F := Ideal) c M1
  M2 : Memref sig .tc .vmem S16x2048 .bf16
  h2 : M2.IsWhole
  f2 : Bf (F := Ideal) c M2
  M3 : Memref sig .tc .vmem S2048x512 .bf16
  h3 : M3.IsWhole
  f3 : Bf (F := Ideal) c M3
  M4 : Memref sig .tc .vmem S2048x512 .bf16
  h4 : M4.IsWhole
  f4 : Bf (F := Ideal) c M4
  M5 : Memref sig .tc .vmem S3x512 .f32
  h5 : M5.IsWhole
  f5 : Bf (F := Ideal) c M5
  M6 : Memref sig .tc .vmem S1x512 .f32
  h6 : M6.IsWhole
  f6 : Bf (F := Ideal) c M6
  M7 : Memref sig .tc .vmem S512x2048 .bf16
  h7 : M7.IsWhole
  f7 : Bf (F := Ideal) c M7
  M8 : Memref sig .tc .vmem S512x2048 .f32
  h8 : M8.IsWhole
  f8 : Bf (F := Ideal) c M8
  M9 : Memref sig .tc .vmem S1x1x1x2048 .f32
  h9 : M9.IsWhole
  f9 : Bf (F := Ideal) c M9
  M10 : Memref sig .tc .vmem S512x2048 .f32
  h10 : M10.IsWhole
  f10 : Bf (F := Ideal) c M10

variable {c : Dev nD} (B : Blocks c) (i : grid0.Coords) (s : St (F := Ideal) c)

abbrev Blocks.X1 : FVec Ideal S512x2048 .bf16 := B.M1.view.read (Elt Ideal) B.f1
abbrev Blocks.X2 : FVec Ideal S16x2048 .bf16 := B.M2.view.read (Elt Ideal) B.f2
abbrev Blocks.X3 : FVec Ideal S2048x512 .bf16 := B.M3.view.read (Elt Ideal) B.f3
abbrev Blocks.X4 : FVec Ideal S2048x512 .bf16 := B.M4.view.read (Elt Ideal) B.f4
abbrev Blocks.X5 : FVec Ideal S3x512 .f32 := B.M5.view.read (Elt Ideal) B.f5
abbrev Blocks.X6 : FVec Ideal S1x512 .f32 := B.M6.view.read (Elt Ideal) B.f6
abbrev Blocks.X7 : FVec Ideal S512x2048 .bf16 := B.M7.view.read (Elt Ideal) B.f7
abbrev Blocks.X8 : FVec Ideal S512x2048 .f32 := B.M8.view.read (Elt Ideal) B.f8
abbrev Blocks.X9 : FVec Ideal S1x1x1x2048 .f32 := B.M9.view.read (Elt Ideal) B.f9
abbrev Blocks.X10 : FVec Ideal S512x2048 .f32 := B.M10.view.read (Elt Ideal) B.f10

/-- What the point leaves. -/
abbrev Blocks.next : Bf (F := Ideal) c B.M10 × St (F := Ideal) c := KernelIdeal.next c i B.M1 B.h1 B.M2 B.h2 B.M3 B.h3 B.M4 B.h4 B.M5 B.h5 B.M6 B.h6 B.M7 B.h7 B.M8 B.h8 B.M9 B.h9 B.M10 B.h10 B.f1 B.f2 B.f3 B.f4 B.f5 B.f6 B.f7 B.f8 B.f9 B.f10 s

abbrev St.a0 {c : Dev nD} (s : St (F := Ideal) c) : FVec Ideal S528x512 .f32 := (Memref.whole cc0_scratch0).view.read (Elt Ideal) s.1
abbrev St.a1 {c : Dev nD} (s : St (F := Ideal) c) : FVec Ideal S528x512 .f32 := (Memref.whole cc0_scratch1).view.read (Elt Ideal) s.2.1
abbrev St.g0 {c : Dev nD} (s : St (F := Ideal) c) : FVec Ideal S512x512 .f32 := (Memref.whole cc0_scratch2).view.read (Elt Ideal) s.2.2.1
abbrev St.g1 {c : Dev nD} (s : St (F := Ideal) c) : FVec Ideal S512x512 .f32 := (Memref.whole cc0_scratch3).view.read (Elt Ideal) s.2.2.2.1
abbrev St.act0 {c : Dev nD} (s : St (F := Ideal) c) : FVec Ideal S512x512 .bf16 := (Memref.whole cc0_scratch4).view.read (Elt Ideal) s.2.2.2.2.1
abbrev St.act1 {c : Dev nD} (s : St (F := Ideal) c) : FVec Ideal S512x512 .bf16 := (Memref.whole cc0_scratch5).view.read (Elt Ideal) s.2.2.2.2.2.1
abbrev St.acc {c : Dev nD} (s : St (F := Ideal) c) : FVec Ideal S512x2048 .f32 := (Memref.whole cc0_scratch6).view.read (Elt Ideal) s.2.2.2.2.2.2

/-- What a point finds in a buffer that the first point clears. -/
abbrev pre_a1 : (Memref.whole cc0_scratch1).view.ty.Contents (Elt Ideal) := if hc : bodyRun.sl.v24 i = 1#1 then (Memref.whole cc0_scratch1).view.writes (Elt Ideal) s.2.1 [⟨Rect.unit (s := S528x512) ![0, 0] S528x512.size (by decide), bodyRun.sl.v60 (F := Ideal)⟩] else s.2.1
abbrev pre_g1 : (Memref.whole cc0_scratch3).view.ty.Contents (Elt Ideal) := if hc : bodyRun.sl.v24 i = 1#1 then (Memref.whole cc0_scratch3).view.writes (Elt Ideal) s.2.2.2.1 [⟨Rect.unit (s := S512x512) ![0, 0] S512x512.size (by decide), bodyRun.sl.v64 (F := Ideal)⟩] else s.2.2.2.1
abbrev pre_act0 : (Memref.whole cc0_scratch4).view.ty.Contents (Elt Ideal) := if hc : bodyRun.sl.v24 i = 1#1 then (Memref.whole cc0_scratch4).view.writes (Elt Ideal) s.2.2.2.2.1 [⟨Rect.unit (s := S512x512) ![0, 0] S512x512.size (by decide), bodyRun.sl.v68 (F := Ideal)⟩] else s.2.2.2.2.1
abbrev pre_acc : (Memref.whole cc0_scratch6).view.ty.Contents (Elt Ideal) := if hc : bodyRun.sl.v27 i = 1#1 then (Memref.whole cc0_scratch6).view.writes (Elt Ideal) s.2.2.2.2.2.2 [⟨Rect.unit (s := S512x2048) ![0, 0] S512x2048.size (by decide), bodyRun.sl.v60_1 (F := Ideal)⟩] else s.2.2.2.2.2.2

/-- The sum a point adds to: zero when the point starts a row tile. -/
def sumFrom : FVec Ideal S512x2048 .f32 := fun y => if bodyRun.sl.v27 i = 1#1 then (0 : EReal) else s.acc y

theorem read_pre_acc : (Memref.whole cc0_scratch6).view.read (Elt Ideal) (pre_acc i s) = sumFrom i s := by
  funext y
  unfold pre_acc sumFrom
  by_cases h : bodyRun.sl.v27 i = 1#1
  · rw [dif_pos h, if_pos h]
    refine (congrFun (View.read_writes_full (s := S512x2048) (Memref.whole cc0_scratch6).view s.2.2.2.2.2.2 (by decide) (bodyRun.sl.v60_1 (F := Ideal)) []) y).trans ?_
    change S512x2048.Idx at y
    idx_vars y
    pointwise [bodyRun.sl.v60_1, bodyRun.sl.v57_1, bodyRun.sl.cst]
  · rw [dif_neg h, if_neg h]

theorem even_a0 (h0 : bodyRun.sl.v48 i = 1#1) : (B.next i s).2.a0 = upVec B.X1 B.X2 (bodyRun.sl.v67_1 i) B.X3 := by
  have e : (B.next i s).2.1 = if hc : bodyRun.sl.v48 i = 1#1 then (Memref.whole cc0_scratch0).view.writes (Elt Ideal) s.1 [⟨Rect.unit (s := S528x512) ![0, 256] S528x256.size (by decide), bodyRun.sl.v337 c i B.M1 B.M2 B.M3 B.f1 B.f2 B.f3⟩, ⟨Rect.unit (s := S528x512) ![0, 0] S528x256.size (by decide), bodyRun.sl.v169 c i B.M1 B.M2 B.M3 B.f1 B.f2 B.f3⟩] else s.1 := rfl
  funext y
  show View.read (Elt Ideal) (Memref.whole cc0_scratch0).view ((B.next i s).2.1) y = _
  rw [e, dif_pos h0]
  refine View.read_writes_apply_of_pieces _ _ _ _ ?_ y ?_
  · refine List.forall_mem_cons.2 ⟨fun x => ?_, List.forall_mem_cons.2 ⟨fun x => ?_, List.forall_mem_nil _⟩⟩
    · exact up_piece B.M1.view B.M2.view B.M3.view B.f1 B.f2 B.f3 _ _ _ 256 (by decide) x _ ((Nat.zero_add _).trans (Nat.one_mul _)) (congrArg (256 + ·) (Nat.one_mul _))
    · exact up_piece B.M1.view B.M2.view B.M3.view B.f1 B.f2 B.f3 _ _ _ 0 (by decide) x _ ((Nat.zero_add _).trans (Nat.one_mul _)) (congrArg (0 + ·) (Nat.one_mul _))
  · idx_vars y
    have := y0.isLt
    have := y1.isLt
    simp only [List.mem_cons, List.not_mem_nil, or_false, exists_eq_or_imp, exists_eq_left, Rect.mem_set_unit, Fin.forall_fin_two]
    simp
    omega

theorem even_g0 (h0 : bodyRun.sl.v48 i = 1#1) : (B.next i s).2.g0 = gateVec B.X1 B.X4 := by
  have e : (B.next i s).2.2.2.1 = if hc : bodyRun.sl.v48 i = 1#1 then (Memref.whole cc0_scratch2).view.writes (Elt Ideal) s.2.2.1 [⟨Rect.unit (s := S512x512) ![0, 256] S512x256.size (by decide), bodyRun.sl.v378 c B.M1 B.M4 B.f1 B.f4⟩, ⟨Rect.unit (s := S512x512) ![0, 0] S512x256.size (by decide), bodyRun.sl.v253 c B.M1 B.M4 B.f1 B.f4⟩] else s.2.2.1 := rfl
  funext y
  show View.read (Elt Ideal) (Memref.whole cc0_scratch2).view ((B.next i s).2.2.2.1) y = _
  rw [e, dif_pos h0]
  refine View.read_writes_apply_of_pieces _ _ _ _ ?_ y ?_
  · refine List.forall_mem_cons.2 ⟨fun x => ?_, List.forall_mem_cons.2 ⟨fun x => ?_, List.forall_mem_nil _⟩⟩
    · exact gate_piece B.M1.view B.M4.view B.f1 B.f4 _ 256 (by decide) x _ ((Nat.zero_add _).trans (Nat.one_mul _)) (congrArg (256 + ·) (Nat.one_mul _))
    · exact gate_piece B.M1.view B.M4.view B.f1 B.f4 _ 0 (by decide) x _ ((Nat.zero_add _).trans (Nat.one_mul _)) (congrArg (0 + ·) (Nat.one_mul _))
  · idx_vars y
    have := y0.isLt
    have := y1.isLt
    simp only [List.mem_cons, List.not_mem_nil, or_false, exists_eq_or_imp, exists_eq_left, Rect.mem_set_unit, Fin.forall_fin_two]
    simp
    omega

theorem odd_a1 (h1 : bodyRun.sl.v51 i = 1#1) : (B.next i s).2.a1 = upVec B.X1 B.X2 (bodyRun.sl.v67_1 i) B.X3 := by
  have e : (B.next i s).2.2.1 = if hc : bodyRun.sl.v51 i = 1#1 then (Memref.whole cc0_scratch1).view.writes (Elt Ideal) (pre_a1 i s) [⟨Rect.unit (s := S528x512) ![0, 256] S528x256.size (by decide), bodyRun.sl.v337 c i B.M1 B.M2 B.M3 B.f1 B.f2 B.f3⟩, ⟨Rect.unit (s := S528x512) ![0, 0] S528x256.size (by decide), bodyRun.sl.v169 c i B.M1 B.M2 B.M3 B.f1 B.f2 B.f3⟩] else pre_a1 i s := rfl
  funext y
  show View.read (Elt Ideal) (Memref.whole cc0_scratch1).view ((B.next i s).2.2.1) y = _
  rw [e, dif_pos h1]
  refine View.read_writes_apply_of_pieces _ _ _ _ ?_ y ?_
  · refine List.forall_mem_cons.2 ⟨fun x => ?_, List.forall_mem_cons.2 ⟨fun x => ?_, List.forall_mem_nil _⟩⟩
    · exact up_piece B.M1.view B.M2.view B.M3.view B.f1 B.f2 B.f3 _ _ _ 256 (by decide) x _ ((Nat.zero_add _).trans (Nat.one_mul _)) (congrArg (256 + ·) (Nat.one_mul _))
    · exact up_piece B.M1.view B.M2.view B.M3.view B.f1 B.f2 B.f3 _ _ _ 0 (by decide) x _ ((Nat.zero_add _).trans (Nat.one_mul _)) (congrArg (0 + ·) (Nat.one_mul _))
  · idx_vars y
    have := y0.isLt
    have := y1.isLt
    simp only [List.mem_cons, List.not_mem_nil, or_false, exists_eq_or_imp, exists_eq_left, Rect.mem_set_unit, Fin.forall_fin_two]
    simp
    omega

theorem odd_g1 (h1 : bodyRun.sl.v51 i = 1#1) : (B.next i s).2.g1 = gateVec B.X1 B.X4 := by
  have e : (B.next i s).2.2.2.2.1 = if hc : bodyRun.sl.v51 i = 1#1 then (Memref.whole cc0_scratch3).view.writes (Elt Ideal) (pre_g1 i s) [⟨Rect.unit (s := S512x512) ![0, 256] S512x256.size (by decide), bodyRun.sl.v378 c B.M1 B.M4 B.f1 B.f4⟩, ⟨Rect.unit (s := S512x512) ![0, 0] S512x256.size (by decide), bodyRun.sl.v253 c B.M1 B.M4 B.f1 B.f4⟩] else pre_g1 i s := rfl
  funext y
  show View.read (Elt Ideal) (Memref.whole cc0_scratch3).view ((B.next i s).2.2.2.2.1) y = _
  rw [e, dif_pos h1]
  refine View.read_writes_apply_of_pieces _ _ _ _ ?_ y ?_
  · refine List.forall_mem_cons.2 ⟨fun x => ?_, List.forall_mem_cons.2 ⟨fun x => ?_, List.forall_mem_nil _⟩⟩
    · exact gate_piece B.M1.view B.M4.view B.f1 B.f4 _ 256 (by decide) x _ ((Nat.zero_add _).trans (Nat.one_mul _)) (congrArg (256 + ·) (Nat.one_mul _))
    · exact gate_piece B.M1.view B.M4.view B.f1 B.f4 _ 0 (by decide) x _ ((Nat.zero_add _).trans (Nat.one_mul _)) (congrArg (0 + ·) (Nat.one_mul _))
  · idx_vars y
    have := y0.isLt
    have := y1.isLt
    simp only [List.mem_cons, List.not_mem_nil, or_false, exists_eq_or_imp, exists_eq_left, Rect.mem_set_unit, Fin.forall_fin_two]
    simp
    omega

theorem even_act1 (h0 : bodyRun.sl.v48 i = 1#1) (hz : ¬ bodyRun.sl.v24 i = 1#1) : (B.next i s).2.act1 = actVec B.X5 B.X6 s.a1 s.g1 := by
  have e : (B.next i s).2.2.2.2.2.2.1 = if hc : bodyRun.sl.v48 i = 1#1 then (Memref.whole cc0_scratch5).view.writes (Elt Ideal) s.2.2.2.2.2.1 [⟨Rect.unit (s := S512x512) ![448, 0] S64x512.size (by decide), bodyRun.sl.v413 c i B.M5 B.M6 (Memref.whole cc0_scratch1) (Memref.whole cc0_scratch3) B.f5 B.f6 s.2.1 s.2.2.2.1⟩, ⟨Rect.unit (s := S512x512) ![384, 0] S64x512.size (by decide), bodyRun.sl.v372 c i B.M5 B.M6 (Memref.whole cc0_scratch1) (Memref.whole cc0_scratch3) B.f5 B.f6 s.2.1 s.2.2.2.1⟩, ⟨Rect.unit (s := S512x512) ![320, 0] S64x512.size (by decide), bodyRun.sl.v331 c i B.M5 B.M6 (Memref.whole cc0_scratch1) (Memref.whole cc0_scratch3) B.f5 B.f6 s.2.1 s.2.2.2.1⟩, ⟨Rect.unit (s := S512x512) ![256, 0] S64x512.size (by decide), bodyRun.sl.v288 c i B.M5 B.M6 (Memref.whole cc0_scratch1) (Memref.whole cc0_scratch3) B.f5 B.f6 s.2.1 s.2.2.2.1⟩, ⟨Rect.unit (s := S512x512) ![192, 0] S64x512.size (by decide), bodyRun.sl.v247 c i B.M5 B.M6 (Memref.whole cc0_scratch1) (Memref.whole cc0_scratch3) B.f5 B.f6 s.2.1 s.2.2.2.1⟩, ⟨Rect.unit (s := S512x512) ![128, 0] S64x512.size (by decide), bodyRun.sl.v204 c i B.M5 B.M6 (Memref.whole cc0_scratch1) (Memref.whole cc0_scratch3) B.f5 B.f6 s.2.1 s.2.2.2.1⟩, ⟨Rect.unit (s := S512x512) ![64, 0] S64x512.size (by decide), bodyRun.sl.v163 c i B.M5 B.M6 (Memref.whole cc0_scratch1) (Memref.whole cc0_scratch3) B.f5 B.f6 s.2.1 s.2.2.2.1⟩, ⟨Rect.unit (s := S512x512) ![0, 0] S64x512.size (by decide), bodyRun.sl.v120 c i B.M5 B.M6 (Memref.whole cc0_scratch1) (Memref.whole cc0_scratch3) B.f5 B.f6 s.2.1 s.2.2.2.1⟩] else s.2.2.2.2.2.1 := rfl
  funext y
  show View.read (Elt Ideal) (Memref.whole cc0_scratch5).view ((B.next i s).2.2.2.2.2.2.1) y = _
  rw [e, dif_pos h0]
  have ea : s.a1 = (Memref.whole cc0_scratch1).view.read (Elt Ideal) (pre_a1 i s) := by rw [pre_a1, dif_neg hz]
  have eg : s.g1 = (Memref.whole cc0_scratch3).view.read (Elt Ideal) (pre_g1 i s) := by rw [pre_g1, dif_neg hz]
  rw [ea, eg]
  refine View.read_writes_apply_of_pieces _ _ _ _ ?_ y ?_
  · refine List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_nil _⟩⟩⟩⟩⟩⟩⟩⟩
    · exact act_piece B.M5.view B.M6.view (Memref.whole cc0_scratch1).view (Memref.whole cc0_scratch3).view B.f5 B.f6 (pre_a1 i s) (pre_g1 i s) _ _ 448 (by decide) (by decide) (by decide) (by decide) x _ (congrArg (448 + ·) (Nat.one_mul _)) ((Nat.zero_add _).trans (Nat.one_mul _))
    · exact act_piece B.M5.view B.M6.view (Memref.whole cc0_scratch1).view (Memref.whole cc0_scratch3).view B.f5 B.f6 (pre_a1 i s) (pre_g1 i s) _ _ 384 (by decide) (by decide) (by decide) (by decide) x _ (congrArg (384 + ·) (Nat.one_mul _)) ((Nat.zero_add _).trans (Nat.one_mul _))
    · exact act_piece B.M5.view B.M6.view (Memref.whole cc0_scratch1).view (Memref.whole cc0_scratch3).view B.f5 B.f6 (pre_a1 i s) (pre_g1 i s) _ _ 320 (by decide) (by decide) (by decide) (by decide) x _ (congrArg (320 + ·) (Nat.one_mul _)) ((Nat.zero_add _).trans (Nat.one_mul _))
    · exact act_piece B.M5.view B.M6.view (Memref.whole cc0_scratch1).view (Memref.whole cc0_scratch3).view B.f5 B.f6 (pre_a1 i s) (pre_g1 i s) _ _ 256 (by decide) (by decide) (by decide) (by decide) x _ (congrArg (256 + ·) (Nat.one_mul _)) ((Nat.zero_add _).trans (Nat.one_mul _))
    · exact act_piece B.M5.view B.M6.view (Memref.whole cc0_scratch1).view (Memref.whole cc0_scratch3).view B.f5 B.f6 (pre_a1 i s) (pre_g1 i s) _ _ 192 (by decide) (by decide) (by decide) (by decide) x _ (congrArg (192 + ·) (Nat.one_mul _)) ((Nat.zero_add _).trans (Nat.one_mul _))
    · exact act_piece B.M5.view B.M6.view (Memref.whole cc0_scratch1).view (Memref.whole cc0_scratch3).view B.f5 B.f6 (pre_a1 i s) (pre_g1 i s) _ _ 128 (by decide) (by decide) (by decide) (by decide) x _ (congrArg (128 + ·) (Nat.one_mul _)) ((Nat.zero_add _).trans (Nat.one_mul _))
    · exact act_piece B.M5.view B.M6.view (Memref.whole cc0_scratch1).view (Memref.whole cc0_scratch3).view B.f5 B.f6 (pre_a1 i s) (pre_g1 i s) _ _ 64 (by decide) (by decide) (by decide) (by decide) x _ (congrArg (64 + ·) (Nat.one_mul _)) ((Nat.zero_add _).trans (Nat.one_mul _))
    · exact act_piece B.M5.view B.M6.view (Memref.whole cc0_scratch1).view (Memref.whole cc0_scratch3).view B.f5 B.f6 (pre_a1 i s) (pre_g1 i s) _ _ 0 (by decide) (by decide) (by decide) (by decide) x _ (congrArg (0 + ·) (Nat.one_mul _)) ((Nat.zero_add _).trans (Nat.one_mul _))
  · idx_vars y
    have := y0.isLt
    have := y1.isLt
    simp only [List.mem_cons, List.not_mem_nil, or_false, exists_eq_or_imp, exists_eq_left, Rect.mem_set_unit, Fin.forall_fin_two]
    simp
    omega

theorem odd_act0 (h1 : bodyRun.sl.v51 i = 1#1) : (B.next i s).2.act0 = actVec B.X5 B.X6 (B.next i s).2.a0 (B.next i s).2.g0 := by
  have e : (B.next i s).2.2.2.2.2.1 = if hc : bodyRun.sl.v51 i = 1#1 then (Memref.whole cc0_scratch4).view.writes (Elt Ideal) (pre_act0 i s) [⟨Rect.unit (s := S512x512) ![448, 0] S64x512.size (by decide), bodyRun.sl.v413_1 c i B.M1 B.M2 B.M3 B.M4 B.M5 B.M6 (Memref.whole cc0_scratch0) (Memref.whole cc0_scratch2) B.f1 B.f2 B.f3 B.f4 B.f5 B.f6 s.1 s.2.2.1⟩, ⟨Rect.unit (s := S512x512) ![384, 0] S64x512.size (by decide), bodyRun.sl.v372_1 c i B.M1 B.M2 B.M3 B.M4 B.M5 B.M6 (Memref.whole cc0_scratch0) (Memref.whole cc0_scratch2) B.f1 B.f2 B.f3 B.f4 B.f5 B.f6 s.1 s.2.2.1⟩, ⟨Rect.unit (s := S512x512) ![320, 0] S64x512.size (by decide), bodyRun.sl.v331_1 c i B.M1 B.M2 B.M3 B.M4 B.M5 B.M6 (Memref.whole cc0_scratch0) (Memref.whole cc0_scratch2) B.f1 B.f2 B.f3 B.f4 B.f5 B.f6 s.1 s.2.2.1⟩, ⟨Rect.unit (s := S512x512) ![256, 0] S64x512.size (by decide), bodyRun.sl.v288_1 c i B.M1 B.M2 B.M3 B.M4 B.M5 B.M6 (Memref.whole cc0_scratch0) (Memref.whole cc0_scratch2) B.f1 B.f2 B.f3 B.f4 B.f5 B.f6 s.1 s.2.2.1⟩, ⟨Rect.unit (s := S512x512) ![192, 0] S64x512.size (by decide), bodyRun.sl.v247_1 c i B.M1 B.M2 B.M3 B.M4 B.M5 B.M6 (Memref.whole cc0_scratch0) (Memref.whole cc0_scratch2) B.f1 B.f2 B.f3 B.f4 B.f5 B.f6 s.1 s.2.2.1⟩, ⟨Rect.unit (s := S512x512) ![128, 0] S64x512.size (by decide), bodyRun.sl.v204_1 c i B.M1 B.M2 B.M3 B.M4 B.M5 B.M6 (Memref.whole cc0_scratch0) (Memref.whole cc0_scratch2) B.f1 B.f2 B.f3 B.f4 B.f5 B.f6 s.1 s.2.2.1⟩, ⟨Rect.unit (s := S512x512) ![64, 0] S64x512.size (by decide), bodyRun.sl.v163_1 c i B.M1 B.M2 B.M3 B.M4 B.M5 B.M6 (Memref.whole cc0_scratch0) (Memref.whole cc0_scratch2) B.f1 B.f2 B.f3 B.f4 B.f5 B.f6 s.1 s.2.2.1⟩, ⟨Rect.unit (s := S512x512) ![0, 0] S64x512.size (by decide), bodyRun.sl.v120_1 c i B.M1 B.M2 B.M3 B.M4 B.M5 B.M6 (Memref.whole cc0_scratch0) (Memref.whole cc0_scratch2) B.f1 B.f2 B.f3 B.f4 B.f5 B.f6 s.1 s.2.2.1⟩] else pre_act0 i s := rfl
  funext y
  show View.read (Elt Ideal) (Memref.whole cc0_scratch4).view ((B.next i s).2.2.2.2.2.1) y = _
  rw [e, dif_pos h1]
  refine View.read_writes_apply_of_pieces _ _ _ _ ?_ y ?_
  · refine List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, List.forall_mem_nil _⟩⟩⟩⟩⟩⟩⟩⟩
    · exact act_piece B.M5.view B.M6.view (Memref.whole cc0_scratch0).view (Memref.whole cc0_scratch2).view B.f5 B.f6 (B.next i s).2.1 (B.next i s).2.2.2.1 _ _ 448 (by decide) (by decide) (by decide) (by decide) x _ (congrArg (448 + ·) (Nat.one_mul _)) ((Nat.zero_add _).trans (Nat.one_mul _))
    · exact act_piece B.M5.view B.M6.view (Memref.whole cc0_scratch0).view (Memref.whole cc0_scratch2).view B.f5 B.f6 (B.next i s).2.1 (B.next i s).2.2.2.1 _ _ 384 (by decide) (by decide) (by decide) (by decide) x _ (congrArg (384 + ·) (Nat.one_mul _)) ((Nat.zero_add _).trans (Nat.one_mul _))
    · exact act_piece B.M5.view B.M6.view (Memref.whole cc0_scratch0).view (Memref.whole cc0_scratch2).view B.f5 B.f6 (B.next i s).2.1 (B.next i s).2.2.2.1 _ _ 320 (by decide) (by decide) (by decide) (by decide) x _ (congrArg (320 + ·) (Nat.one_mul _)) ((Nat.zero_add _).trans (Nat.one_mul _))
    · exact act_piece B.M5.view B.M6.view (Memref.whole cc0_scratch0).view (Memref.whole cc0_scratch2).view B.f5 B.f6 (B.next i s).2.1 (B.next i s).2.2.2.1 _ _ 256 (by decide) (by decide) (by decide) (by decide) x _ (congrArg (256 + ·) (Nat.one_mul _)) ((Nat.zero_add _).trans (Nat.one_mul _))
    · exact act_piece B.M5.view B.M6.view (Memref.whole cc0_scratch0).view (Memref.whole cc0_scratch2).view B.f5 B.f6 (B.next i s).2.1 (B.next i s).2.2.2.1 _ _ 192 (by decide) (by decide) (by decide) (by decide) x _ (congrArg (192 + ·) (Nat.one_mul _)) ((Nat.zero_add _).trans (Nat.one_mul _))
    · exact act_piece B.M5.view B.M6.view (Memref.whole cc0_scratch0).view (Memref.whole cc0_scratch2).view B.f5 B.f6 (B.next i s).2.1 (B.next i s).2.2.2.1 _ _ 128 (by decide) (by decide) (by decide) (by decide) x _ (congrArg (128 + ·) (Nat.one_mul _)) ((Nat.zero_add _).trans (Nat.one_mul _))
    · exact act_piece B.M5.view B.M6.view (Memref.whole cc0_scratch0).view (Memref.whole cc0_scratch2).view B.f5 B.f6 (B.next i s).2.1 (B.next i s).2.2.2.1 _ _ 64 (by decide) (by decide) (by decide) (by decide) x _ (congrArg (64 + ·) (Nat.one_mul _)) ((Nat.zero_add _).trans (Nat.one_mul _))
    · exact act_piece B.M5.view B.M6.view (Memref.whole cc0_scratch0).view (Memref.whole cc0_scratch2).view B.f5 B.f6 (B.next i s).2.1 (B.next i s).2.2.2.1 _ _ 0 (by decide) (by decide) (by decide) (by decide) x _ (congrArg (0 + ·) (Nat.one_mul _)) ((Nat.zero_add _).trans (Nat.one_mul _))
  · idx_vars y
    have := y0.isLt
    have := y1.isLt
    simp only [List.mem_cons, List.not_mem_nil, or_false, exists_eq_or_imp, exists_eq_left, Rect.mem_set_unit, Fin.forall_fin_two]
    simp
    omega

abbrev mid_acc : (Memref.whole cc0_scratch6).view.ty.Contents (Elt Ideal) := if hc : bodyRun.sl.v48 i = 1#1 then (Memref.whole cc0_scratch6).view.writes (Elt Ideal) (pre_acc i s) [⟨Rect.unit (s := S512x2048) ![0, 1536] S512x512.size (by decide), bodyRun.sl.v296 c i B.M7 (Memref.whole cc0_scratch4) (Memref.whole cc0_scratch6) B.f7 s.2.2.2.2.1 s.2.2.2.2.2.2⟩, ⟨Rect.unit (s := S512x2048) ![0, 1024] S512x512.size (by decide), bodyRun.sl.v212 c i B.M7 (Memref.whole cc0_scratch4) (Memref.whole cc0_scratch6) B.f7 s.2.2.2.2.1 s.2.2.2.2.2.2⟩, ⟨Rect.unit (s := S512x2048) ![0, 512] S512x512.size (by decide), bodyRun.sl.v128 c i B.M7 (Memref.whole cc0_scratch4) (Memref.whole cc0_scratch6) B.f7 s.2.2.2.2.1 s.2.2.2.2.2.2⟩, ⟨Rect.unit (s := S512x2048) ![0, 0] S512x512.size (by decide), bodyRun.sl.v85 c i B.M7 (Memref.whole cc0_scratch4) (Memref.whole cc0_scratch6) B.f7 s.2.2.2.2.1 s.2.2.2.2.2.2⟩] else pre_acc i s
theorem next_acc : (B.next i s).2.2.2.2.2.2.2 = if hc : bodyRun.sl.v51 i = 1#1 then (Memref.whole cc0_scratch6).view.writes (Elt Ideal) (mid_acc B i s) [⟨Rect.unit (s := S512x2048) ![0, 1536] S512x512.size (by decide), bodyRun.sl.v296_1 c i B.M5 B.M6 B.M7 (Memref.whole cc0_scratch1) (Memref.whole cc0_scratch3) (Memref.whole cc0_scratch4) (Memref.whole cc0_scratch5) (Memref.whole cc0_scratch6) B.f5 B.f6 B.f7 s.2.1 s.2.2.2.1 s.2.2.2.2.1 s.2.2.2.2.2.1 s.2.2.2.2.2.2⟩, ⟨Rect.unit (s := S512x2048) ![0, 1024] S512x512.size (by decide), bodyRun.sl.v212_1 c i B.M5 B.M6 B.M7 (Memref.whole cc0_scratch1) (Memref.whole cc0_scratch3) (Memref.whole cc0_scratch4) (Memref.whole cc0_scratch5) (Memref.whole cc0_scratch6) B.f5 B.f6 B.f7 s.2.1 s.2.2.2.1 s.2.2.2.2.1 s.2.2.2.2.2.1 s.2.2.2.2.2.2⟩, ⟨Rect.unit (s := S512x2048) ![0, 512] S512x512.size (by decide), bodyRun.sl.v128_1 c i B.M5 B.M6 B.M7 (Memref.whole cc0_scratch1) (Memref.whole cc0_scratch3) (Memref.whole cc0_scratch4) (Memref.whole cc0_scratch5) (Memref.whole cc0_scratch6) B.f5 B.f6 B.f7 s.2.1 s.2.2.2.1 s.2.2.2.2.1 s.2.2.2.2.2.1 s.2.2.2.2.2.2⟩, ⟨Rect.unit (s := S512x2048) ![0, 0] S512x512.size (by decide), bodyRun.sl.v85_1 c i B.M5 B.M6 B.M7 (Memref.whole cc0_scratch1) (Memref.whole cc0_scratch3) (Memref.whole cc0_scratch4) (Memref.whole cc0_scratch5) (Memref.whole cc0_scratch6) B.f5 B.f6 B.f7 s.2.1 s.2.2.2.1 s.2.2.2.2.1 s.2.2.2.2.2.1 s.2.2.2.2.2.2⟩] else mid_acc B i s := rfl

theorem even_acc (h0 : bodyRun.sl.v48 i = 1#1) (h1 : ¬ bodyRun.sl.v51 i = 1#1) (hz : ¬ bodyRun.sl.v24 i = 1#1) : (B.next i s).2.acc = downVec (sumFrom i s) s.act0 B.X7 := by
  have e : mid_acc B i s = if hc : bodyRun.sl.v48 i = 1#1 then (Memref.whole cc0_scratch6).view.writes (Elt Ideal) (pre_acc i s) [⟨Rect.unit (s := S512x2048) ![0, 1536] S512x512.size (by decide), bodyRun.sl.v296 c i B.M7 (Memref.whole cc0_scratch4) (Memref.whole cc0_scratch6) B.f7 s.2.2.2.2.1 s.2.2.2.2.2.2⟩, ⟨Rect.unit (s := S512x2048) ![0, 1024] S512x512.size (by decide), bodyRun.sl.v212 c i B.M7 (Memref.whole cc0_scratch4) (Memref.whole cc0_scratch6) B.f7 s.2.2.2.2.1 s.2.2.2.2.2.2⟩, ⟨Rect.unit (s := S512x2048) ![0, 512] S512x512.size (by decide), bodyRun.sl.v128 c i B.M7 (Memref.whole cc0_scratch4) (Memref.whole cc0_scratch6) B.f7 s.2.2.2.2.1 s.2.2.2.2.2.2⟩, ⟨Rect.unit (s := S512x2048) ![0, 0] S512x512.size (by decide), bodyRun.sl.v85 c i B.M7 (Memref.whole cc0_scratch4) (Memref.whole cc0_scratch6) B.f7 s.2.2.2.2.1 s.2.2.2.2.2.2⟩] else pre_acc i s := rfl
  funext y
  unfold St.acc
  rw [next_acc, dif_neg h1]
  rw [e, dif_pos h0]
  have ea : s.act0 = (Memref.whole cc0_scratch4).view.read (Elt Ideal) (pre_act0 i s) := by rw [pre_act0, dif_neg hz]
  rw [ea, ← read_pre_acc]
  refine View.read_writes_apply_of_pieces _ _ _ _ ?_ y ?_
  · refine List.forall_mem_cons.2 ⟨fun x => ?_, List.forall_mem_cons.2 ⟨fun x => ?_, List.forall_mem_cons.2 ⟨fun x => ?_, List.forall_mem_cons.2 ⟨fun x => ?_, List.forall_mem_nil _⟩⟩⟩⟩
    · exact down_piece (Memref.whole cc0_scratch6).view (Memref.whole cc0_scratch4).view B.M7.view (pre_acc i s) (pre_act0 i s) B.f7 _ 1536 (by decide) x _ ((Nat.zero_add _).trans (Nat.one_mul _)) (congrArg (1536 + ·) (Nat.one_mul _))
    · exact down_piece (Memref.whole cc0_scratch6).view (Memref.whole cc0_scratch4).view B.M7.view (pre_acc i s) (pre_act0 i s) B.f7 _ 1024 (by decide) x _ ((Nat.zero_add _).trans (Nat.one_mul _)) (congrArg (1024 + ·) (Nat.one_mul _))
    · exact down_piece (Memref.whole cc0_scratch6).view (Memref.whole cc0_scratch4).view B.M7.view (pre_acc i s) (pre_act0 i s) B.f7 _ 512 (by decide) x _ ((Nat.zero_add _).trans (Nat.one_mul _)) (congrArg (512 + ·) (Nat.one_mul _))
    · exact down_piece (Memref.whole cc0_scratch6).view (Memref.whole cc0_scratch4).view B.M7.view (pre_acc i s) (pre_act0 i s) B.f7 _ 0 (by decide) x _ ((Nat.zero_add _).trans (Nat.one_mul _)) (congrArg (0 + ·) (Nat.one_mul _))
  · idx_vars y
    have := y0.isLt
    have := y1.isLt
    simp only [List.mem_cons, List.not_mem_nil, or_false, exists_eq_or_imp, exists_eq_left, Rect.mem_set_unit, Fin.forall_fin_two]
    simp
    omega

theorem odd_acc (h0 : ¬ bodyRun.sl.v48 i = 1#1) (h1 : bodyRun.sl.v51 i = 1#1) : (B.next i s).2.acc = downVec (sumFrom i s) (B.next i s).2.act1 B.X7 := by
  have e : (B.next i s).2.2.2.2.2.2.2 = if hc : bodyRun.sl.v51 i = 1#1 then (Memref.whole cc0_scratch6).view.writes (Elt Ideal) (mid_acc B i s) [⟨Rect.unit (s := S512x2048) ![0, 1536] S512x512.size (by decide), bodyRun.sl.v296_1 c i B.M5 B.M6 B.M7 (Memref.whole cc0_scratch1) (Memref.whole cc0_scratch3) (Memref.whole cc0_scratch4) (Memref.whole cc0_scratch5) (Memref.whole cc0_scratch6) B.f5 B.f6 B.f7 s.2.1 s.2.2.2.1 s.2.2.2.2.1 s.2.2.2.2.2.1 s.2.2.2.2.2.2⟩, ⟨Rect.unit (s := S512x2048) ![0, 1024] S512x512.size (by decide), bodyRun.sl.v212_1 c i B.M5 B.M6 B.M7 (Memref.whole cc0_scratch1) (Memref.whole cc0_scratch3) (Memref.whole cc0_scratch4) (Memref.whole cc0_scratch5) (Memref.whole cc0_scratch6) B.f5 B.f6 B.f7 s.2.1 s.2.2.2.1 s.2.2.2.2.1 s.2.2.2.2.2.1 s.2.2.2.2.2.2⟩, ⟨Rect.unit (s := S512x2048) ![0, 512] S512x512.size (by decide), bodyRun.sl.v128_1 c i B.M5 B.M6 B.M7 (Memref.whole cc0_scratch1) (Memref.whole cc0_scratch3) (Memref.whole cc0_scratch4) (Memref.whole cc0_scratch5) (Memref.whole cc0_scratch6) B.f5 B.f6 B.f7 s.2.1 s.2.2.2.1 s.2.2.2.2.1 s.2.2.2.2.2.1 s.2.2.2.2.2.2⟩, ⟨Rect.unit (s := S512x2048) ![0, 0] S512x512.size (by decide), bodyRun.sl.v85_1 c i B.M5 B.M6 B.M7 (Memref.whole cc0_scratch1) (Memref.whole cc0_scratch3) (Memref.whole cc0_scratch4) (Memref.whole cc0_scratch5) (Memref.whole cc0_scratch6) B.f5 B.f6 B.f7 s.2.1 s.2.2.2.1 s.2.2.2.2.1 s.2.2.2.2.2.1 s.2.2.2.2.2.2⟩] else mid_acc B i s := rfl
  funext y
  show View.read (Elt Ideal) (Memref.whole cc0_scratch6).view ((B.next i s).2.2.2.2.2.2.2) y = _
  rw [e, dif_pos h1]
  rw [← read_pre_acc, show pre_acc i s = mid_acc B i s from by rw [mid_acc, dif_neg h0]]
  refine View.read_writes_apply_of_pieces _ _ _ _ ?_ y ?_
  · refine List.forall_mem_cons.2 ⟨fun x => ?_, List.forall_mem_cons.2 ⟨fun x => ?_, List.forall_mem_cons.2 ⟨fun x => ?_, List.forall_mem_cons.2 ⟨fun x => ?_, List.forall_mem_nil _⟩⟩⟩⟩
    · exact down_piece (Memref.whole cc0_scratch6).view (Memref.whole cc0_scratch5).view B.M7.view (mid_acc B i s) (B.next i s).2.2.2.2.2.2.1 B.f7 _ 1536 (by decide) x _ ((Nat.zero_add _).trans (Nat.one_mul _)) (congrArg (1536 + ·) (Nat.one_mul _))
    · exact down_piece (Memref.whole cc0_scratch6).view (Memref.whole cc0_scratch5).view B.M7.view (mid_acc B i s) (B.next i s).2.2.2.2.2.2.1 B.f7 _ 1024 (by decide) x _ ((Nat.zero_add _).trans (Nat.one_mul _)) (congrArg (1024 + ·) (Nat.one_mul _))
    · exact down_piece (Memref.whole cc0_scratch6).view (Memref.whole cc0_scratch5).view B.M7.view (mid_acc B i s) (B.next i s).2.2.2.2.2.2.1 B.f7 _ 512 (by decide) x _ ((Nat.zero_add _).trans (Nat.one_mul _)) (congrArg (512 + ·) (Nat.one_mul _))
    · exact down_piece (Memref.whole cc0_scratch6).view (Memref.whole cc0_scratch5).view B.M7.view (mid_acc B i s) (B.next i s).2.2.2.2.2.2.1 B.f7 _ 0 (by decide) x _ ((Nat.zero_add _).trans (Nat.one_mul _)) (congrArg (0 + ·) (Nat.one_mul _))
  · idx_vars y
    have := y0.isLt
    have := y1.isLt
    simp only [List.mem_cons, List.not_mem_nil, or_false, exists_eq_or_imp, exists_eq_left, Rect.mem_set_unit, Fin.forall_fin_two]
    simp
    omega

theorem odd_a0 (h0 : ¬ bodyRun.sl.v48 i = 1#1) : (B.next i s).2.a0 = s.a0 := by
  show View.read (Elt Ideal) (Memref.whole cc0_scratch0).view ((B.next i s).2.1) = _
  rw [show (B.next i s).2.1 = if hc : bodyRun.sl.v48 i = 1#1 then _ else s.1 from rfl, dif_neg h0]

theorem odd_g0 (h0 : ¬ bodyRun.sl.v48 i = 1#1) : (B.next i s).2.g0 = s.g0 := by
  show View.read (Elt Ideal) (Memref.whole cc0_scratch2).view ((B.next i s).2.2.2.1) = _
  rw [show (B.next i s).2.2.2.1 = if hc : bodyRun.sl.v48 i = 1#1 then _ else s.2.2.1 from rfl, dif_neg h0]

theorem odd_act1 (h0 : ¬ bodyRun.sl.v48 i = 1#1) : (B.next i s).2.act1 = s.act1 := by
  show View.read (Elt Ideal) (Memref.whole cc0_scratch5).view ((B.next i s).2.2.2.2.2.2.1) = _
  rw [show (B.next i s).2.2.2.2.2.2.1 = if hc : bodyRun.sl.v48 i = 1#1 then _ else s.2.2.2.2.2.1 from rfl, dif_neg h0]

theorem out_eq (hc : k0_cond5 i = 1#1) : B.M10.view.read (Elt Ideal) (B.next i s).1 = outVec B.X8 B.X9 (B.next i s).2.acc := by
  have e : (B.next i s).1 = if hc : k0_cond5 i = 1#1 then B.M10.view.writes (Elt Ideal) B.f10 [⟨Rect.unit (s := S512x2048) ![0, 0] S512x2048.size (by decide), bodyRun.sl.v63_2 c i B.M5 B.M6 B.M7 B.M8 B.M9 (Memref.whole cc0_scratch1) (Memref.whole cc0_scratch3) (Memref.whole cc0_scratch4) (Memref.whole cc0_scratch5) (Memref.whole cc0_scratch6) B.f5 B.f6 B.f7 B.f8 B.f9 s.2.1 s.2.2.2.1 s.2.2.2.2.1 s.2.2.2.2.2.1 s.2.2.2.2.2.2⟩] else B.f10 := rfl
  rw [e, dif_pos hc, View.read_writes_full]
  exact out_piece B.M8.view B.M9.view (Memref.whole cc0_scratch6).view B.f8 B.f9 ((B.next i s).2.2.2.2.2.2.2) _ _ _

end Cert.Proof.KernelIdeal

end
-- ==== Proof.Network.lean ====
/-
  The feed-forward network as functions of row and column numbers.
-/
module

public import proofs.«01_k».proof.Proof.KernelChunks

@[expose] public section

noncomputable section

namespace Cert.Proof

open Idealize.ShloMosaic

/-- A two-axis array read at numbers, zero outside it. -/
def at2 {n m : ℕ} (X : (⟨2, ![n, m]⟩ : Shape).Idx → EReal) (i j : ℕ) : EReal := if h : i < n ∧ j < m then X (ix2 ⟨i, h.1⟩ ⟨j, h.2⟩) else 0

/-- A three-axis array with one index on its first axis, read at numbers, zero outside it. -/
def at3 {n m : ℕ} (X : (⟨3, ![1, n, m]⟩ : Shape).Idx → EReal) (i j : ℕ) : EReal := if h : i < n ∧ j < m then X (ix3 0 ⟨i, h.1⟩ ⟨j, h.2⟩) else 0

theorem eq_at2 {n m : ℕ} (X : (⟨2, ![n, m]⟩ : Shape).Idx → EReal) (y : (⟨2, ![n, m]⟩ : Shape).Idx) {i j : ℕ} (hi : (y 0).val = i) (hj : (y 1).val = j) :
    X y = at2 X i j := by
  subst hi hj
  unfold at2
  rw [dif_pos ⟨(y 0).isLt, (y 1).isLt⟩]
  exact congrArg X (eq_ix2 y)

theorem eq_at3 {n m : ℕ} (X : (⟨3, ![1, n, m]⟩ : Shape).Idx → EReal) (y : (⟨3, ![1, n, m]⟩ : Shape).Idx) {i j : ℕ} (hi : (y 1).val = i) (hj : (y 2).val = j) :
    X y = at3 X i j := by
  subst hi hj
  unfold at3
  rw [dif_pos ⟨(y 1).isLt, (y 2).isLt⟩]
  refine congrArg X ((eq_ix3 y).trans ?_)
  exact congrArg (fun a => ix3 a (y 1) (y 2)) (Subsingleton.elim _ _)

/-- The rows of two sequences of 4096, numbered through, read at numbers, zero outside them. -/
def atRow {m : ℕ} (X : (⟨3, ![2, 4096, m]⟩ : Shape).Idx → EReal) (i j : ℕ) : EReal :=
  if h : i < 8192 ∧ j < m then X (ix3 ⟨i / 4096, by omega⟩ ⟨i % 4096, by omega⟩ ⟨j, h.2⟩) else 0

theorem eq_atRow {m : ℕ} (X : (⟨3, ![2, 4096, m]⟩ : Shape).Idx → EReal) (y : (⟨3, ![2, 4096, m]⟩ : Shape).Idx) {i j : ℕ} (hi : (y 0).val * 4096 + (y 1).val = i) (hj : (y 2).val = j) :
    X y = atRow X i j := by
  subst hi hj
  have h0 : (y 0).val < 2 := (y 0).isLt
  have h1 : (y 1).val < 4096 := (y 1).isLt
  unfold atRow
  rw [dif_pos ⟨by omega, (y 2).isLt⟩]
  refine congrArg X ((eq_ix3 y).trans ?_)
  have e0 : (y 0 : Fin 2) = ⟨((y 0).val * 4096 + (y 1).val) / 4096, by omega⟩ := Fin.ext (by show (y 0).val = _; dsimp only; omega)
  have e1 : (y 1 : Fin 4096) = ⟨((y 0).val * 4096 + (y 1).val) % 4096, by omega⟩ := Fin.ext (by show (y 1).val = _; dsimp only; omega)
  exact congrArg₂ (fun a b => ix3 a b (y 2)) e0 e1

/-- Dropping a leading axis of one index. -/
theorem cast3_apply {n k : ℕ} (X : (⟨3, ![1, n, k]⟩ : Shape).Idx → EReal) (h : (⟨3, ![1, n, k]⟩ : Shape).ShapeCasts ⟨2, ![n, k]⟩) (i : (⟨2, ![n, k]⟩ : Shape).Idx) {a b : ℕ}
    (ha : (i 0).val = a) (hb : (i 1).val = b) : shapeCast ⟨2, ![n, k]⟩ X h i = at3 X a b := by
  rw [shapeCast_apply X h i (ix3 0 (i 0) (i 1)) (by rw [Shape.rowMajor_val_three, Shape.rowMajor_val_two]; show (0 * n + (i 0).val) * k + (i 1).val = (i 0).val * k + (i 1).val; rw [Nat.zero_mul, Nat.zero_add])]
  exact eq_at3 X _ ha hb

/-- Numbering the rows of two sequences through. -/
theorem castRow_apply {k : ℕ} (X : (⟨3, ![2, 4096, k]⟩ : Shape).Idx → EReal) (h : (⟨3, ![2, 4096, k]⟩ : Shape).ShapeCasts ⟨2, ![8192, k]⟩) (i : (⟨2, ![8192, k]⟩ : Shape).Idx) {a b : ℕ}
    (ha : (i 0).val = a) (hb : (i 1).val = b) : shapeCast ⟨2, ![8192, k]⟩ X h i = atRow X a b := by
  have h0 : (i 0).val < 8192 := (i 0).isLt
  have e : (i 0).val / 4096 * 4096 + (i 0).val % 4096 = (i 0).val := by omega
  refine (shapeCast_apply X h i (ix3 (⟨(i 0).val / 4096, by omega⟩ : Fin 2) (⟨(i 0).val % 4096, by omega⟩ : Fin 4096) (i 1)) ?_).trans (eq_atRow X _ ?_ hb)
  · rw [Shape.rowMajor_val_three, Shape.rowMajor_val_two]
    show ((i 0).val / 4096 * 4096 + (i 0).val % 4096) * k + (i 1).val = (i 0).val * k + (i 1).val
    rw [e]
  · exact e.trans ha

/-- One of the six parts of a sequence's modulation. -/
theorem castPart_apply (X : (⟨2, ![2, 12288]⟩ : Shape).Idx → EReal) (h : (⟨2, ![2, 12288]⟩ : Shape).ShapeCasts ⟨4, ![2, 6, 1, 2048]⟩) (i : (⟨4, ![2, 6, 1, 2048]⟩ : Shape).Idx) {b p l : ℕ}
    (hb : (i 0).val = b) (hp : (i 1).val = p) (hl : (i 3).val = l) : shapeCast ⟨4, ![2, 6, 1, 2048]⟩ X h i = at2 X b (2048 * p + l) := by
  have h1 : (i 1).val < 6 := (i 1).isLt
  have h2 : (i 2).val < 1 := (i 2).isLt
  have h3 : (i 3).val < 2048 := (i 3).isLt
  refine (shapeCast_apply X _ i (ix2 (i 0) (⟨2048 * (i 1).val + (i 3).val, by omega⟩ : Fin 12288)) (by rw [Shape.rowMajor_val_four, Shape.rowMajor_val_two]; show (i 0).val * 12288 + (2048 * (i 1).val + (i 3).val) = (((i 0).val * 6 + (i 1).val) * 1 + (i 2).val) * 2048 + (i 3).val; omega)).trans ?_
  exact eq_at2 X _ hb (by show 2048 * (i 1).val + (i 3).val = _; rw [hp, hl])

/-- A row of weights flattened and back. -/
theorem castFlat_apply {k : ℕ} (X : (⟨2, ![1, k]⟩ : Shape).Idx → EReal) (h : (⟨2, ![1, k]⟩ : Shape).ShapeCasts ⟨1, ![k]⟩) (h' : (⟨1, ![k]⟩ : Shape).ShapeCasts ⟨2, ![1, k]⟩) (i : (⟨2, ![1, k]⟩ : Shape).Idx) {j : ℕ}
    (hj : (i 1).val = j) : shapeCast ⟨2, ![1, k]⟩ (shapeCast ⟨1, ![k]⟩ X h) h' i = at2 X 0 j := by
  have h0 : (i 0).val = 0 := by have : (i 0).val < 1 := (i 0).isLt; omega
  refine (shapeCast_apply (shapeCast ⟨1, ![k]⟩ X h) _ i (ix1 (i 1)) (by rw [Shape.rowMajor_val_one, Shape.rowMajor_val_two]; show (i 1).val = (i 0).val * k + (i 1).val; rw [h0, Nat.zero_mul, Nat.zero_add])).trans ?_
  refine (shapeCast_apply X _ (ix1 (i 1)) i (by rw [Shape.rowMajor_val_one, Shape.rowMajor_val_two]; show (i 0).val * k + (i 1).val = (i 1).val; rw [h0, Nat.zero_mul, Nat.zero_add])).trans ?_
  exact eq_at2 X _ h0 hj

/-- The arguments read at numbers: the normalized rows, the up projection's weight, the convolution's weight and bias,
    the down projection's weight, the residual rows and the gates. -/
structure Net where
  h : ℕ → ℕ → EReal
  w : ℕ → ℕ → EReal
  cw : ℕ → ℕ → EReal
  cb : ℕ → EReal
  d : ℕ → ℕ → EReal
  x : ℕ → ℕ → EReal
  gt : ℕ → ℕ → EReal

/-- The arguments read at numbers. -/
def net (x0 x1 : (⟨2, ![8192, 2048]⟩ : Shape).Idx → EReal) (x2 : (⟨3, ![1, 2048, 11264]⟩ : Shape).Idx → EReal) (x3 : (⟨3, ![1, 3, 5632]⟩ : Shape).Idx → EReal)
    (x4 : (⟨2, ![1, 5632]⟩ : Shape).Idx → EReal) (x5 : (⟨3, ![1, 5632, 2048]⟩ : Shape).Idx → EReal) (x6 : (⟨2, ![2, 12288]⟩ : Shape).Idx → EReal) : Net where
  h := at2 x0
  w := at3 x2
  cw := at3 x3
  cb := at2 x4 0
  d := at3 x5
  x := at2 x1
  gt := fun b l => at2 x6 b (10240 + l)

namespace Net

variable (N : Net)

/-- The up projection. -/
def up (R j : ℕ) : EReal := ∑ k : Fin 2048, N.h R k.val * N.w k.val j

/-- The up projection `o` rows above, zero above the sequence's first row. -/
def above (o R j : ℕ) : EReal := if R % 4096 < o then 0 else N.up (R - o) j

/-- The convolution along the sequence. -/
def conv (R j : ℕ) : EReal := N.cw 2 j * N.up R j + N.cw 1 j * N.above 1 R j + N.cw 0 j * N.above 2 R j + N.cb j

/-- The activation, times the gate's half. -/
def act (R j : ℕ) : EReal := KernelIdeal.gelu (N.conv R j) * N.up R (5632 + j)

/-- The result. -/
def out (R l : ℕ) : EReal := N.x R l + N.gt (R / 4096) l * ∑ j : Fin 5632, N.act R j.val * N.d j.val l

end Net

end Cert.Proof
-- ==== Proof.KernelGrid.lean ====
/-
  The grid in closed form, the feed-forward network as functions of row and column numbers, and what each block the
  pipeline fetches holds of the arguments.
-/
module

public import proofs.«01_k».proof.Proof.KernelStep
public import proofs.«01_k».proof.Proof.Network
public import Idealize.ShloMosaic.Lib.Pipeline.ValueKit
public import Idealize.ShloMosaic.Lib.Claim

@[expose] public section

set_option maxRecDepth 16384

noncomputable section

namespace Cert.Proof.KernelIdeal

open Cert.KernelIdeal Cert.KernelIdeal.Gen
open Idealize.ShloMosaic Idealize.ShloMosaic.TcCoe

/-- Which points are even and odd, where the first point, a row tile's first and last block and a sequence's first tile lie. -/
theorem conds : ∀ t : Fin cfg0.N, (bodyRun.sl.v48 (grid0.coords t) = 1#1 ↔ t.val % 2 = 0) ∧ (bodyRun.sl.v51 (grid0.coords t) = 1#1 ↔ t.val % 2 = 1)
    ∧ (bodyRun.sl.v24 (grid0.coords t) = 1#1 ↔ t.val = 0) ∧ (bodyRun.sl.v27 (grid0.coords t) = 1#1 ↔ (t.val - 2) % 11 = 0)
    ∧ (k0_cond5 (grid0.coords t) = 1#1 ↔ 2 ≤ t.val ∧ (t.val - 2) % 11 = 10)
    ∧ (bodyRun.sl.v67_1 (grid0.coords t) = if min t.val 175 / 11 % 8 = 0 then 1#1 else 0#1) :=
  (by decide +kernel : ∀ t : Fin grid0.N, _)

/-- The index maps in closed form. -/
theorem idx : ∀ t : Fin cfg0.N, win0_0.index t = ![min t.val 175 / 11, 0] ∧ win0_1.index t = ![min t.val 175 / 11 * 32 - 1, 0]
    ∧ win0_2.index t = ![0, min t.val 175 % 11] ∧ win0_3.index t = ![0, 11 + min t.val 175 % 11]
    ∧ win0_4.index t = ![0, min (t.val - 1) 175 % 11] ∧ win0_5.index t = ![0, min (t.val - 1) 175 % 11]
    ∧ win0_6.index t = ![(t.val - 2) % 11, 0] ∧ win0_7.index t = ![(t.val - 2) / 11, 0]
    ∧ win0_8.index t = ![(t.val - 2) / 11 / 8, 5, 0, 0] ∧ win0_9.index t = ![(t.val - 2) / 11, 0] :=
  (by decide +kernel : ∀ t : Fin grid0.N, _)

variable (m : (ℓ : Loc nD τ sig) → Buf (Elt Ideal) ℓ) (c : Dev nD)

/-- The arguments read at numbers. -/
abbrev args : Net := net (m ((c : Thread nD τ).loc main_arg0)) (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6))

theorem blk0 (t : Fin cfg0.N) (y : S512x2048.Idx) : iblk m c 0 t y = (args m c).h (512 * (min t.val 175 / 11) + (y 0).val) (y 1).val := by
  unfold iblk
  refine eq_at2 (m ((c : Thread nD τ).loc main_arg0)) _ ?_ ?_
  · blk_simp [idx t]
    simp
    omega
  · blk_simp [idx t]

theorem blk1 (t : Fin cfg0.N) (h : min t.val 175 / 11 % 8 ≠ 0) (y : S16x2048.Idx) : iblk m c 1 t y = (args m c).h (512 * (min t.val 175 / 11) + (y 0).val - 16) (y 1).val := by
  unfold iblk
  refine eq_at2 (m ((c : Thread nD τ).loc main_arg0)) _ ?_ ?_
  · blk_simp [idx t]
    simp
    omega
  · blk_simp [idx t]

theorem blk2 (t : Fin cfg0.N) (y : S2048x512.Idx) : iblk m c 2 t y = (args m c).w (y 0).val (512 * (min t.val 175 % 11) + (y 1).val) := by
  unfold iblk
  rw [show V m c (Pipeline.arrRef spec0 2) = V m c main_v2 from rfl]
  entry_read
  refine cast3_apply (m ((c : Thread nD τ).loc main_arg2)) shapeCasts_S1x2048x11264_S2048x11264 _ ?_ ?_
  · blk_simp [idx t]
  · blk_simp [idx t]
    simp
    omega

theorem blk3 (t : Fin cfg0.N) (y : S2048x512.Idx) : iblk m c 3 t y = (args m c).w (y 0).val (5632 + 512 * (min t.val 175 % 11) + (y 1).val) := by
  unfold iblk
  rw [show V m c (Pipeline.arrRef spec0 3) = V m c main_v2 from rfl]
  entry_read
  refine cast3_apply (m ((c : Thread nD τ).loc main_arg2)) shapeCasts_S1x2048x11264_S2048x11264 _ ?_ ?_
  · blk_simp [idx t]
  · blk_simp [idx t]
    simp
    omega

theorem blk4 (t : Fin cfg0.N) (y : S3x512.Idx) : iblk m c 4 t y = (args m c).cw (y 0).val (512 * (min (t.val - 1) 175 % 11) + (y 1).val) := by
  unfold iblk
  rw [show V m c (Pipeline.arrRef spec0 4) = V m c main_v3 from rfl]
  entry_read
  refine cast3_apply (m ((c : Thread nD τ).loc main_arg3)) shapeCasts_S1x3x5632_S3x5632 _ ?_ ?_
  · blk_simp [idx t]
  · blk_simp [idx t]
    simp
    omega

theorem blk5 (t : Fin cfg0.N) (y : S1x512.Idx) : iblk m c 5 t y = (args m c).cb (512 * (min (t.val - 1) 175 % 11) + (y 1).val) := by
  unfold iblk
  rw [show V m c (Pipeline.arrRef spec0 5) = V m c main_v7 from rfl]
  entry_read
  have e : ∀ (X : S1x5632.Idx → EReal) (i : S1x5632.Idx) (j : ℕ), (i 1).val = j → shapeCast S1x5632 (shapeCast S5632 X shapeCasts_S1x5632_S5632) shapeCasts_S5632_S1x5632 i = at2 X 0 j := fun X i j hj => by
    refine (shapeCast_apply (shapeCast S5632 X shapeCasts_S1x5632_S5632) _ i (ix1 (i 1)) (by rw [Shape.rowMajor_val_one, Shape.rowMajor_val_two]; have : (i 0).val < 1 := (i 0).isLt; show (i 1).val = (i 0).val * 5632 + (i 1).val; omega)).trans ?_
    refine (shapeCast_apply X _ (ix1 (i 1)) i (by rw [Shape.rowMajor_val_one, Shape.rowMajor_val_two]; have : (i 0).val < 1 := (i 0).isLt; show (i 0).val * 5632 + (i 1).val = (i 1).val; omega)).trans ?_
    exact eq_at2 X _ (by have : (i 0).val < 1 := (i 0).isLt; omega) hj
  refine e (m ((c : Thread nD τ).loc main_arg4)) _ _ ?_
  blk_simp [idx t]
  simp
  omega

theorem blk6 (t : Fin cfg0.N) (y : S512x2048.Idx) : iblk m c 6 t y = (args m c).d (512 * ((t.val - 2) % 11) + (y 0).val) (y 1).val := by
  unfold iblk
  rw [show V m c (Pipeline.arrRef spec0 6) = V m c main_v6 from rfl]
  entry_read
  refine cast3_apply (m ((c : Thread nD τ).loc main_arg5)) shapeCasts_S1x5632x2048_S5632x2048 _ ?_ ?_
  · blk_simp [idx t]
    simp
    omega
  · blk_simp [idx t]

theorem blk7 (t : Fin cfg0.N) (y : S512x2048.Idx) : iblk m c 7 t y = (args m c).x (512 * ((t.val - 2) / 11) + (y 0).val) (y 1).val := by
  unfold iblk
  refine eq_at2 (m ((c : Thread nD τ).loc main_arg1)) _ ?_ ?_
  · blk_simp [idx t]
    simp
    omega
  · blk_simp [idx t]

theorem blk8 (t : Fin cfg0.N) (y : S1x1x1x2048.Idx) : iblk m c 8 t y = (args m c).gt ((t.val - 2) / 11 / 8) (y 3).val := by
  unfold iblk
  rw [show V m c (Pipeline.arrRef spec0 8) = V m c main_v0 from rfl]
  entry_read
  have e : ∀ (X : S2x12288.Idx → EReal) (i : S2x6x1x2048.Idx) (b l : ℕ), (i 0).val = b → (i 1).val = 5 → (i 3).val = l → shapeCast S2x6x1x2048 X shapeCasts_S2x12288_S2x6x1x2048 i = at2 X b (10240 + l) := fun X i b l hb h5 hl => by
    have h2 : (i 2).val < 1 := (i 2).isLt
    have h3 : (i 3).val < 2048 := (i 3).isLt
    refine (shapeCast_apply X _ i (ix2 (i 0) ⟨10240 + (i 3).val, by omega⟩) (by rw [Shape.rowMajor_val_four, Shape.rowMajor_val_two]; show (i 0).val * 12288 + (10240 + (i 3).val) = (((i 0).val * 6 + (i 1).val) * 1 + (i 2).val) * 2048 + (i 3).val; omega)).trans ?_
    exact eq_at2 X _ hb (congrArg (10240 + ·) hl)
  refine e (m ((c : Thread nD τ).loc main_arg6)) _ _ _ ?_ ?_ ?_
  · blk_simp [idx t]
  · blk_simp [idx t]
  · blk_simp [idx t]

end Cert.Proof.KernelIdeal
-- ==== Proof.KernelValue.lean ====
/-
  What the scratch buffers hold between the points, and what the kernel leaves in its result.
-/
module

public import proofs.«01_k».proof.Proof.KernelGrid
public import Idealize.ShloMosaic.Lib.Pipeline.ArrRel
public import Idealize.ShloMosaic.Lib.Pointwise.Sums

@[expose] public section

set_option maxRecDepth 16384

noncomputable section

namespace Cert.Proof

/-- One block of the down projection's sum. -/
def Net.part (N : Net) (R g l : ℕ) : EReal := ∑ k : Fin 512, N.act R (512 * g + k.val) * N.d (512 * g + k.val) l

theorem Net.sum_part (N : Net) (R l : ℕ) : ∑ g ∈ Finset.range 11, N.part R g l = ∑ j : Fin 5632, N.act R j.val * N.d j.val l := by
  rw [Idealize.ShloMosaic.Fin.sum_univ_tiles 11 512 rfl, Finset.sum_range]
  refine Finset.sum_congr rfl fun g _ => Finset.sum_congr rfl fun k _ => ?_
  rw [Nat.mul_comm 512 g.val]

namespace KernelIdeal

open Cert.KernelIdeal Cert.KernelIdeal.Gen
open Idealize.ShloMosaic Idealize.ShloMosaic.TcCoe Idealize.SL.Sem

/-- The projections of unit `u` (row tile `u / 11`, column block `u % 11`), its activation, and the sum of the down projection up to it. -/
def IsUp (N : Net) (u : ℕ) (A : FVec Ideal S528x512 .f32) : Prop :=
  ∀ y, A y = if (y 0).val < 16 ∧ u / 11 % 8 = 0 then 0 else N.up (512 * (u / 11) + (y 0).val - 16) (512 * (u % 11) + (y 1).val)
def IsGate (N : Net) (u : ℕ) (G : FVec Ideal S512x512 .f32) : Prop := ∀ y, G y = N.up (512 * (u / 11) + (y 0).val) (5632 + 512 * (u % 11) + (y 1).val)
def IsAct (N : Net) (u : ℕ) (X : FVec Ideal S512x512 .bf16) : Prop := ∀ y, X y = N.act (512 * (u / 11) + (y 0).val) (512 * (u % 11) + (y 1).val)
def IsAcc (N : Net) (u : ℕ) (A : FVec Ideal S512x2048 .f32) : Prop := ∀ y, A y = ∑ g ∈ Finset.range (u % 11 + 1), N.part (512 * (u / 11) + (y 0).val) g (y 1).val

variable (m : (ℓ : Loc nD τ sig) → Buf (Elt Ideal) ℓ) (c : Dev nD) (t : Fin cfg0.N)

theorem up_of (ht : t.val ≤ 175) : IsUp (args m c) t.val (upVec (iblk m c 0 t) (iblk m c 1 t) (bodyRun.sl.v67_1 (grid0.coords t)) (iblk m c 2 t)) := by
  intro y
  have hm : min t.val 175 = t.val := Nat.min_eq_left ht
  have hz := (conds t).2.2.2.2.2
  rw [hm] at hz
  unfold upVec Net.up
  rw [hz]
  by_cases h : (y 0).val < 16
  · simp only [dif_pos h]
    by_cases h8 : t.val / 11 % 8 = 0
    · rw [if_pos h8, if_pos ⟨h, h8⟩]
      refine Finset.sum_eq_zero fun k _ => ?_
      rw [show (Scalar.select 1#1 (0 : EReal) _ : EReal) = 0 from rfl]
      exact zero_mul _
    · rw [if_neg h8, if_neg (fun a => h8 a.2)]
      refine Finset.sum_congr rfl fun k _ => ?_
      refine congrArg₂ (· * ·) ((blk1 m c t (by rw [hm]; exact h8) _).trans ?_) ((blk2 m c t _).trans ?_)
      · rw [hm]; rfl
      · rw [hm]; rfl
  · simp only [dif_neg h]
    rw [if_neg (fun a => h a.1)]
    refine Finset.sum_congr rfl fun k _ => ?_
    refine congrArg₂ (· * ·) ((blk0 m c t _).trans ?_) ((blk2 m c t _).trans ?_)
    · rw [hm]
      refine congrArg₂ _ ?_ rfl
      show 512 * (t.val / 11) + ((y 0).val - 16) = _
      omega
    · rw [hm]; rfl

theorem gate_of (ht : t.val ≤ 175) : IsGate (args m c) t.val (gateVec (iblk m c 0 t) (iblk m c 3 t)) := by
  intro y
  have hm : min t.val 175 = t.val := Nat.min_eq_left ht
  unfold gateVec Net.up
  refine Finset.sum_congr rfl fun k _ => ?_
  refine congrArg₂ (· * ·) ((blk0 m c t _).trans ?_) ((blk3 m c t _).trans ?_)
  · rw [hm]; rfl
  · rw [hm]; rfl

theorem above_of {N : Net} {u : ℕ} {A : FVec Ideal S528x512 .f32} (hA : IsUp N u A) (p o : ℕ) (hp : p ≤ 16) (ho : o ≤ 2) (e : p + o = 16) (r l : Fin 512) :
    A (ix2 (below p hp r) l) = N.above o (512 * (u / 11) + r.val) (512 * (u % 11) + l.val) := by
  refine (hA _).trans ?_
  show (if p + r.val < 16 ∧ u / 11 % 8 = 0 then (0 : EReal) else N.up (512 * (u / 11) + (p + r.val) - 16) (512 * (u % 11) + l.val)) = _
  unfold Net.above
  by_cases h : p + r.val < 16 ∧ u / 11 % 8 = 0
  · refine (if_pos h).trans (if_pos ?_).symm
    omega
  · refine (if_neg h).trans (Eq.trans ?_ (if_neg ?_).symm)
    · refine congrArg₂ _ ?_ rfl
      omega
    · omega

theorem act_of (h1 : 1 ≤ t.val) (ht : t.val ≤ 176) (A : FVec Ideal S528x512 .f32) (G : FVec Ideal S512x512 .f32) (hA : IsUp (args m c) (t.val - 1) A) (hG : IsGate (args m c) (t.val - 1) G) :
    IsAct (args m c) (t.val - 1) (actVec (iblk m c 4 t) (iblk m c 5 t) A G) := by
  intro y
  have hm : min (t.val - 1) 175 = t.val - 1 := Nat.min_eq_left (by omega)
  have ew : ∀ k : Fin 3, iblk m c 4 t (ix2 k (y 1)) = (args m c).cw k.val (512 * ((t.val - 1) % 11) + (y 1).val) := fun k => (blk4 m c t _).trans (by rw [hm]; rfl)
  have eb : iblk m c 5 t (ix2 0 (y 1)) = (args m c).cb (512 * ((t.val - 1) % 11) + (y 1).val) := (blk5 m c t _).trans (by rw [hm]; rfl)
  have e0 : (args m c).above 0 (512 * ((t.val - 1) / 11) + (y 0).val) (512 * ((t.val - 1) % 11) + (y 1).val) = (args m c).up (512 * ((t.val - 1) / 11) + (y 0).val) (512 * ((t.val - 1) % 11) + (y 1).val) := by
    unfold Net.above; rw [if_neg (Nat.not_lt_zero _), Nat.sub_zero]
  unfold actVec Net.act Net.conv
  refine congrArg₂ (· * ·) (congrArg gelu (congrArg₂ (· + ·) (congrArg₂ (· + ·) (congrArg₂ (· + ·) (congrArg₂ (· * ·) (ew 2) ((above_of hA 16 0 _ (by omega) rfl (y 0) (y 1)).trans e0)) (congrArg₂ (· * ·) (ew 1) (above_of hA 15 1 _ (by omega) rfl (y 0) (y 1))))
    (congrArg₂ (· * ·) (ew 0) (above_of hA 14 2 _ (by omega) rfl (y 0) (y 1)))) eb)) ((hG y).trans (congrArg₂ _ rfl ?_))
  omega

theorem acc_of (h2 : 2 ≤ t.val) (s : St (F := Ideal) c) (X : FVec Ideal S512x512 .bf16) (hX : IsAct (args m c) (t.val - 2) X)
    (hs : 3 ≤ t.val → IsAcc (args m c) (t.val - 3) s.acc) : IsAcc (args m c) (t.val - 2) (downVec (sumFrom (grid0.coords t) s) X (iblk m c 6 t)) := by
  intro y
  unfold downVec sumFrom
  have hd : ∑ k : Fin 512, X (ix2 (y 0) k) * iblk m c 6 t (ix2 k (y 1)) = (args m c).part (512 * ((t.val - 2) / 11) + (y 0).val) ((t.val - 2) % 11) (y 1).val := by
    unfold Net.part
    refine Finset.sum_congr rfl fun k _ => ?_
    refine congrArg₂ (· * ·) (hX _) (blk6 m c t _)
  refine (congrArg₂ (· + ·) rfl hd).trans ?_
  rw [Finset.sum_range_succ]
  refine congrArg (· + _) ?_
  by_cases h : (t.val - 2) % 11 = 0
  · rw [if_pos ((conds t).2.2.2.1.2 h), h]
    rfl
  · rw [if_neg (fun a => h ((conds t).2.2.2.1.1 a)), hs (by omega)]
    rw [show (t.val - 3) / 11 = (t.val - 2) / 11 by omega, show (t.val - 3) % 11 + 1 = (t.val - 2) % 11 by omega]

theorem out_of (h : (t.val - 2) % 11 = 10) (A : FVec Ideal S512x2048 .f32) (hA : IsAcc (args m c) (t.val - 2) A) (y : S512x2048.Idx) :
    outVec (iblk m c 7 t) (iblk m c 8 t) A y = (args m c).out (512 * ((t.val - 2) / 11) + (y 0).val) (y 1).val := by
  have h0 : (y 0).val < 512 := (y 0).isLt
  unfold outVec Net.out
  rw [blk7, blk8, hA, h, ← Net.sum_part]
  refine congrArg (_ + ·) (congrArg (· * _) (congrArg₂ _ ?_ rfl))
  omega

/-- What the scratch buffers hold before point `n`: the projections of the unit before, the activation of the unit before that, and the sum up
    to the unit before that one. -/
def Inv (n : ℕ) (s : St (F := Ideal) c) : Prop :=
  (1 ≤ n → n ≤ 176 → if n % 2 = 1 then IsUp (args m c) (n - 1) s.a0 ∧ IsGate (args m c) (n - 1) s.g0 else IsUp (args m c) (n - 1) s.a1 ∧ IsGate (args m c) (n - 1) s.g1)
    ∧ (2 ≤ n → n ≤ 177 → if n % 2 = 0 then IsAct (args m c) (n - 2) s.act0 else IsAct (args m c) (n - 2) s.act1)
    ∧ (3 ≤ n → n ≤ 178 → IsAcc (args m c) (n - 3) s.acc)

/-- What a point that ends a row tile leaves in the result's block. -/
def Rl (X : S512x2048.Idx → EReal) : Prop :=
  (2 ≤ t.val ∧ (t.val - 2) % 11 = 10) → ∀ y, X y = (args m c).out (512 * ((t.val - 2) / 11) + (y 0).val) (y 1).val

theorem keeps : Keeps (F := Ideal) (Inv m) (Rl m) m := by
  intro c t M1 h1 M2 h2 M3 h3 M4 h4 M5 h5 M6 h6 M7 h7 M8 h8 M9 h9 M10 h10 f1 f2 f3 f4 f5 f6 f7 f8 f9 f10 s e1 e2 e3 e4 e5 e6 e7 e8 e9 hI
  let B : Blocks c := ⟨M1, h1, f1, M2, h2, f2, M3, h3, f3, M4, h4, f4, M5, h5, f5, M6, h6, f6, M7, h7, f7, M8, h8, f8, M9, h9, f9, M10, h10, f10⟩
  have x1 : B.X1 = iblk m c 0 t := e1
  have x2 : B.X2 = iblk m c 1 t := e2
  have x3 : B.X3 = iblk m c 2 t := e3
  have x4 : B.X4 = iblk m c 3 t := e4
  have x5 : B.X5 = iblk m c 4 t := e5
  have x6 : B.X6 = iblk m c 5 t := e6
  have x7 : B.X7 = iblk m c 6 t := e7
  have x8 : B.X8 = iblk m c 7 t := e8
  have x9 : B.X9 = iblk m c 8 t := e9
  have ht : t.val < 178 := lt_of_lt_of_eq t.isLt N_0
  obtain ⟨c0, c1, c2, c3, c4, -⟩ := conds t
  obtain ⟨i1, i2, i3⟩ := hI
  show Inv m c (t.val + 1) (B.next (grid0.coords t) s).2 ∧ Rl m c t (B.M10.view.read (Elt Ideal) (B.next (grid0.coords t) s).1)
  have hacc : 2 ≤ t.val → IsAcc (args m c) (t.val - 2) (B.next (grid0.coords t) s).2.acc := by
    intro g2
    have j2 := i2 g2 (by omega)
    have j3 := fun h : 3 ≤ t.val => i3 h (by omega)
    by_cases hp : t.val % 2 = 0
    · rw [even_acc B _ s (c0.2 hp) (fun a => by have := c1.1 a; omega) (fun a => by have := c2.1 a; omega), x7]
      rw [if_pos hp] at j2
      exact acc_of m c t g2 s _ j2 j3
    · rw [odd_acc B _ s (fun a => hp (c0.1 a)) (c1.2 (by omega)), odd_act1 B _ s (fun a => hp (c0.1 a)), x7]
      rw [if_neg hp] at j2
      exact acc_of m c t g2 s _ j2 j3
  refine ⟨⟨fun _ g => ?_, fun g1 g => ?_, fun g1 g => ?_⟩, fun hc y => ?_⟩
  · rw [Nat.add_sub_cancel]
    by_cases hp : t.val % 2 = 0
    · rw [if_pos (by omega), even_a0 B _ s (c0.2 hp), even_g0 B _ s (c0.2 hp), x1, x2, x3, x4]
      exact ⟨up_of m c t (by omega), gate_of m c t (by omega)⟩
    · rw [if_neg (by omega), odd_a1 B _ s (c1.2 (by omega)), odd_g1 B _ s (c1.2 (by omega)), x1, x2, x3, x4]
      exact ⟨up_of m c t (by omega), gate_of m c t (by omega)⟩
  · rw [show t.val + 1 - 2 = t.val - 1 by omega]
    have j1 := i1 (by omega) (by omega)
    by_cases hp : t.val % 2 = 0
    · rw [if_neg (by omega)] at j1
      rw [if_neg (by omega), even_act1 B _ s (c0.2 hp) (fun a => by have := c2.1 a; omega), x5, x6]
      exact act_of m c t (by omega) (by omega) _ _ j1.1 j1.2
    · rw [if_pos (by omega)] at j1
      rw [if_pos (by omega), odd_act0 B _ s (c1.2 (by omega)), odd_a0 B _ s (fun a => hp (c0.1 a)), odd_g0 B _ s (fun a => hp (c0.1 a)), x5, x6]
      exact act_of m c t (by omega) (by omega) _ _ j1.1 j1.2
  · rw [show t.val + 1 - 3 = t.val - 2 by omega]
    exact hacc (by omega)
  · rw [out_eq B _ s (c4.2 hc), x8, x9]
    exact out_of m c t hc.2 _ (hacc hc.1) y

/-- The result's window is written back where a row tile ends, and these blocks cover the result. -/
theorem flush_end : ∀ t : Fin cfg0.N, win0_9.flush t = true → 2 ≤ t.val ∧ (t.val - 2) % 11 = 10 := (by decide +kernel : ∀ t : Fin grid0.N, _)

/-- What the kernel leaves in its result. -/
def result : FVec Ideal S8192x2048 .f32 := fun i => (args m c).out (i 0).val (i 1).val

theorem run (ρ : Dev nD → PrngReg) : θ_run defs (onTc (τ := τ) (main (F := Ideal))) ⟨m, fun _ => 0, ρ⟩ (fun r => ∀ c : Dev nD,
      r.2.mem ((c.tc : Thread nD τ).loc main_v8) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r h c => ⟨?_, args_of h.1 c⟩) (run_main (Inv := Inv m) (Rl := Rl m) ρ (fun c s => ⟨fun h => absurd h (by omega), fun h => absurd h (by omega), fun h => absurd h (by omega)⟩) (keeps m))
  obtain ⟨after, hL, hA⟩ := h.1.exists_exact c
  refine (hA 9).trans ?_
  refine ((rdat (Inv m) (Rl m) m c).withAfter after).arrAt_eq_of_covers 9 (result m c) (by decide +kernel) (fun t hf y => ?_)
  have hr : Rl m c t (after 9 t) := (dat (Inv m) m c).toRRel_leaves (w := (9 : Fin cfg0.W)) (fgt := isRes) (Rl := rel (Rl m) c) rfl (hL 9 t hf)
  have hf' := flush_end t hf
  blk_simp
  refine (hr hf' _).trans ?_
  unfold result
  refine congrArg₂ _ ?_ ?_
  · blk_simp [idx t]
    simp
    omega
  · blk_simp [idx t]

end KernelIdeal

end Cert.Proof
-- ==== Proof.ReferenceValue.lean ====
/-
  What the reference computes: the feed-forward network of its arguments.
-/
module

public import proofs.«01_k».proof.Proof.Network
public import proofs.«01_k».proof.Proof.Gen.ReferenceIdeal.Read
public import Idealize.ShloMosaic.Lib.KernelVsHost

@[expose] public section

set_option maxRecDepth 16384
set_option maxHeartbeats 1600000

noncomputable section

namespace Cert.Proof.ReferenceIdeal

open Cert.ReferenceIdeal Cert.ReferenceIdeal.Read
open Idealize.ShloMosaic

variable (x0 : FVec Ideal S8192x2048 .bf16) (x1 : FVec Ideal S8192x2048 .f32) (x2 : FVec Ideal S1x2048x11264 .f32) (x3 : FVec Ideal S1x3x5632 .f32)
  (x4 : FVec Ideal S1x5632 .f32) (x5 : FVec Ideal S1x5632x2048 .f32) (x6 : FVec Ideal S2x12288 .f32)

theorem up_apply (i : S2x4096x11264.Idx) : val_main_v10 (F := Ideal) x0 x2 i = (net x0 x1 x2 x3 x4 x5 x6).up ((i 0).val * 4096 + (i 1).val) (i 2).val := by
  have h0 : (i 0).val < 2 := (i 0).isLt
  have h1 : (i 1).val < 4096 := (i 1).isLt
  rw [val_main_v10_apply]
  unfold Net.up
  refine Finset.sum_congr rfl fun k _ => ?_
  rw [val_main_v1_apply, val_main_v0_apply, val_main_v9_apply]
  refine congrArg₂ (· * ·) ?_ ?_
  · refine eq_at2 x0 _ ?_ ?_
    · show (((i 0).val * 4096 + (i 1).val) * 2048 + k.val) / 2048 = _
      omega
    · show (((i 0).val * 4096 + (i 1).val) * 2048 + k.val) % 2048 = _
      omega
  · have h2 : (i 2).val < 11264 := (i 2).isLt
    refine eq_at3 x2 _ ?_ ?_
    · show (k.val * 11264 + (i 2).val) / 11264 % 2048 = _
      omega
    · show (k.val * 11264 + (i 2).val) % 11264 = _
      omega

/-- The padded rows: row `r + 2 - o` is `o` rows above `r`, zero above the sequence. -/
theorem pad_apply' (i : S2x4098x5632.Idx) (o r : ℕ) (ho : o ≤ 2) (hr : r < 4096) (hi : (i 1).val = r + (2 - o)) :
    val_main_v13 (F := Ideal) x0 x2 i = (net x0 x1 x2 x3 x4 x5 x6).above o ((i 0).val * 4096 + r) (i 2).val := by
  have h0 : (i 0).val < 2 := (i 0).isLt
  have h2 : (i 2).val < 5632 := (i 2).isLt
  unfold val_main_v13 Net.above
  rw [pad_apply]
  have hmod : ((i 0).val * 4096 + r) % 4096 = r := by omega
  rw [hmod]
  by_cases h : r < o
  · rw [if_pos h, dif_neg]
    · rw [val_main_call0_v0_apply, val_main_c_apply]
      exact sitofp_zero (φ := .f32)
    · intro hin
      have := (hin 1).1
      have e : (2 : ℕ) ≤ (i 1).val := this
      omega
  · rw [if_neg h, dif_pos]
    · rw [val_main_v11_apply, up_apply x0 x1 x2 x3 x4 x5 x6]
      refine congrArg₂ _ ?_ ?_
      · show (((i 0).val - 0) / 1) * 4096 + ((i 1).val - 2) / 1 = _
        omega
      · show ((i 2).val - 0) / 1 = _
        omega
    · intro a
      match a with
      | ⟨0, _⟩ => exact ⟨Nat.zero_le _, Nat.mod_one _, by show ((i 0).val - 0) / 1 < 2; omega⟩
      | ⟨1, _⟩ => exact ⟨by show 2 ≤ (i 1).val; omega, Nat.mod_one _, by show ((i 1).val - 2) / 1 < 4096; omega⟩
      | ⟨2, _⟩ => exact ⟨Nat.zero_le _, Nat.mod_one _, by show ((i 2).val - 0) / 1 < 5632; omega⟩

theorem reorder (a b c u v w : EReal) : a * u + b * v + c * w = w * c + v * b + u * a := by
  rw [mul_comm a, mul_comm b, mul_comm c, add_comm (u * a + v * b), add_comm (u * a), ← add_assoc]

theorem conv_apply (i : S2x4096x5632.Idx) : val_main_v39 (F := Ideal) x0 x2 x3 x4 i = (net x0 x1 x2 x3 x4 x5 x6).conv ((i 0).val * 4096 + (i 1).val) (i 2).val := by
  have h1 : (i 1).val < 4096 := (i 1).isLt
  have h2 : (i 2).val < 5632 := (i 2).isLt
  rw [val_main_v39_apply, val_main_v35_apply, val_main_v34_apply, val_main_v28_apply, val_main_v27_apply, val_main_v21_apply, val_main_v19_apply, val_main_v20_apply, val_main_cst_apply,
    val_main_v14_apply, val_main_v22_apply, val_main_v29_apply, val_main_v18_apply, val_main_v17_apply, val_main_v16_apply, val_main_v15_apply,
    val_main_v26_apply, val_main_v25_apply, val_main_v24_apply, val_main_v23_apply, val_main_v33_apply, val_main_v32_apply, val_main_v31_apply, val_main_v30_apply,
    val_main_v38_apply, val_main_v37_apply, val_main_v36_apply,
    pad_apply' x0 x1 x2 x3 x4 x5 x6 _ 2 (i 1).val (by omega) h1 rfl, pad_apply' x0 x1 x2 x3 x4 x5 x6 _ 1 (i 1).val (by omega) h1 (Nat.add_comm _ _), pad_apply' x0 x1 x2 x3 x4 x5 x6 _ 0 (i 1).val (by omega) h1 (Nat.add_comm _ _)]
  rw [eq_at3 x3 _ (i := 0) (j := (i 2).val) rfl (Nat.mod_eq_of_lt h2), eq_at3 x3 _ (i := 1) (j := (i 2).val) rfl (Nat.mod_eq_of_lt h2), eq_at3 x3 _ (i := 2) (j := (i 2).val) rfl (Nat.mod_eq_of_lt h2),
    eq_at2 x4 _ (i := 0) (j := (i 2).val) rfl (Nat.mod_eq_of_lt h2)]
  have e0 : (net x0 x1 x2 x3 x4 x5 x6).above 0 ((i 0).val * 4096 + (i 1).val) (i 2).val = (net x0 x1 x2 x3 x4 x5 x6).up ((i 0).val * 4096 + (i 1).val) (i 2).val := by
    unfold Net.above; rw [if_neg (Nat.not_lt_zero _), Nat.sub_zero]
  have z : (FloatOps.ofBits .f32 0x00000000#32 : Ideal .f32) = (0 : EReal) := Ideal.ofBits_zero_f32
  unfold Net.conv
  rw [← e0]
  show (((_ + _ * _) + _ * _) + _ * _) + _ = (_ : EReal)
  rw [z, zero_add]
  show ((_ * _ + _ * _) + _ * _) + _ = ((_ * _ + _ * _) + _ * _) + _
  refine congrArg (· + _) ?_
  exact reorder _ _ _ _ _ _

theorem act_apply (i : S2x4096x5632.Idx) : val_main_v53 (F := Ideal) x0 x2 x3 x4 i = (net x0 x1 x2 x3 x4 x5 x6).act ((i 0).val * 4096 + (i 1).val) (i 2).val := by
  have h2 : (i 2).val < 5632 := (i 2).isLt
  rw [val_main_v53_apply, val_main_v52_apply, val_main_v51_apply, val_main_v50_apply, val_main_cst_3_apply, val_main_v49_apply, val_main_v48_apply, val_main_cst_2_apply, val_main_v47_apply,
    val_main_v46_apply, val_main_v45_apply, val_main_cst_1_apply, val_main_v44_apply, val_main_v43_apply, val_main_v42_apply, val_main_cst_0_apply, val_main_v41_apply, val_main_v40_apply,
    conv_apply x0 x1 x2 x3 x4 x5 x6, val_main_v12_apply, up_apply x0 x1 x2 x3 x4 x5 x6]
  unfold Net.act
  generalize (net x0 x1 x2 x3 x4 x5 x6).conv _ _ = u
  unfold KernelIdeal.gelu
  refine congrArg₂ (· * ·) ?_ (congrArg₂ _ rfl ?_)
  · rw [← mul_assoc u u u]
    show u * (_ * (Ideal.ofBits FTy.f32 0x3F800000#32 + _)) = _
    rw [Ideal.ofBits_one_f32]
    rfl
  · show 5632 + (i 2).val = _
    rfl

theorem out_apply (i : S8192x2048.Idx) : val_main_v60 (F := Ideal) x0 x1 x2 x3 x4 x5 x6 i = (net x0 x1 x2 x3 x4 x5 x6).out (i 0).val (i 1).val := by
  have h0 : (i 0).val < 8192 := (i 0).isLt
  have h1 : (i 1).val < 2048 := (i 1).isLt
  rw [val_main_v60_apply, val_main_v59_apply, val_main_v58_apply, val_main_v2_apply, val_main_v57_apply, val_main_v56_apply, val_main_v8_apply, val_main_v55_apply]
  unfold Net.out
  refine congrArg₂ (· + ·) ?_ (congrArg₂ (· * ·) ?_ (Finset.sum_congr rfl fun k _ => ?_))
  · refine eq_at2 x1 _ ?_ ?_
    · dsimp only [idx_main_v2, idx_main_v60]
      omega
    · dsimp only [idx_main_v2, idx_main_v60]
      omega
  · refine eq_at2 x6 _ ?_ ?_
    · dsimp only [idx_main_v8, idx_main_v56, idx_main_v57, idx_main_v60]
      omega
    · dsimp only [idx_main_v8, idx_main_v56, idx_main_v57, idx_main_v60]
      omega
  · rw [act_apply x0 x1 x2 x3 x4 x5 x6, val_main_v54_apply]
    refine congrArg₂ (· * ·) (congrArg₂ _ ?_ rfl) (eq_at3 x5 _ ?_ ?_)
    · dsimp only [lidx_main_v55, idx_main_v60]
      omega
    · dsimp only [ridx_main_v55, idx_main_v54, idx_main_v60]
      omega
    · dsimp only [ridx_main_v55, idx_main_v54, idx_main_v60]
      omega

end Cert.Proof.ReferenceIdeal
-- ==== Proof.Projection.lean ====
/-
  The input projection as functions of row and column numbers.
-/
module

public import proofs.«01_k».proof.Proof.Network

@[expose] public section

noncomputable section

namespace Cert.Proof

open Idealize.ShloMosaic

theorem eq_read {a a' : ℕ} (f : ℕ → EReal) {z : EReal} (hz : z = f a) (ha : a = a') : z = f a' := ha ▸ hz

theorem eq_read₂ {a b a' b' : ℕ} (f : ℕ → ℕ → EReal) {z : EReal} (hz : z = f a b) (ha : a = a') (hb : b = b') : z = f a' b' := ha ▸ hb ▸ hz

theorem zero_add_eq {z s : EReal} (hz : z = Ideal.ofBits .f32 0x00000000#32) : z + s = s := by rw [hz, Ideal.ofBits_zero_f32, zero_add]

/-- A row of 2048 elements, normed by its mean of squares, weighed, scaled and shifted. -/
def modulated (x g sh sc : ℕ → EReal) (l : ℕ) : EReal :=
  x l * Ideal.rsqrt (Ideal.div (∑ k : Fin 2048, x k.val * x k.val) (Ideal.ofBits .f32 0x45000000#32) + Ideal.ofBits .f32 0x358637BD#32) * g l * (1 + sc l) + sh l

/-- A row normed in groups of 64 elements, weighed by one weight for all groups and a factor. -/
def headNormed (u g : ℕ → EReal) (p : EReal) (j : ℕ) : EReal :=
  u j * Ideal.rsqrt ((∑ k : Fin 64, u (64 * (j / 64) + k.val) * u (64 * (j / 64) + k.val)) * Ideal.ofBits .f32 0x3C800000#32 + Ideal.ofBits .f32 0x358637BD#32) * (g (j % 64) * p)

/-- The arguments read at numbers: the layer's input by row, the modulation by sequence, the norm's weight, the
    projection's weight and the heads' norms' weights. -/
structure Proj where
  x : ℕ → ℕ → EReal
  md : ℕ → ℕ → EReal
  g : ℕ → EReal
  w : ℕ → ℕ → EReal
  qg : ℕ → EReal
  kg : ℕ → EReal

namespace Proj

variable (N : Proj)

/-- The normed and modulated row. -/
def hid (R l : ℕ) : EReal := modulated (N.x R) N.g (N.md (R / 4096)) (fun l => N.md (R / 4096) (2048 + l)) l

/-- The projected row. -/
def up (R j : ℕ) : EReal := ∑ k : Fin 2048, N.hid R k.val * N.w k.val j

/-- The queries, the keys and the values of a row beside each other. -/
def qkv (R j : ℕ) : EReal :=
  if j < 1024 then headNormed (N.up R) N.qg (Ideal.ofBits .f32 0x3E38AA3B#32) j
  else if j < 2048 then headNormed (fun j => N.up R (1024 + j)) N.kg (Ideal.ofBits .f32 0x3F800000#32) (j - 1024)
  else N.up R j

/-- The recurrence's input row. -/
def u (R j : ℕ) : EReal := N.up R (3072 + j)

end Proj

/-- The arguments read at numbers. -/
def proj (x0 : (⟨3, ![2, 4096, 2048]⟩ : Shape).Idx → EReal) (x1 : (⟨2, ![2, 12288]⟩ : Shape).Idx → EReal) (x2 : (⟨2, ![1, 2048]⟩ : Shape).Idx → EReal)
    (x3 : (⟨3, ![1, 2048, 4096]⟩ : Shape).Idx → EReal) (x4 x5 : (⟨2, ![1, 64]⟩ : Shape).Idx → EReal) : Proj where
  x := atRow x0
  md := at2 x1
  g := at2 x2 0
  w := at3 x3
  qg := at2 x4 0
  kg := at2 x5 0

end Cert.Proof
-- ==== Proof.InProjTower.lean ====
/-
  The input projection's heads' norms: 1024 columns, normed in groups of 64 by way of blocks of 128.
-/
module

public import proofs.«01_k».proof.Proof.Gen.InProjIdeal.Frame
public import Idealize.ShloMosaic.Lib.Pointwise
public import Idealize.ShloMosaic.Lib.Pipeline.ValueKit

@[expose] public section

set_option maxRecDepth 16384

noncomputable section

namespace Cert.Proof.InProjIdeal

open Cert.InProjIdeal Cert.InProjIdeal.Gen
open Idealize.ShloMosaic

/-- 128 columns normed in halves. -/
def halfTower (p : BitVec 32) (x : FVec Ideal S512x128 .f32) (g : FVec Ideal S1x128 .f32) : FVec Ideal S512x128 .f32 :=
  have sq : FVec Ideal S512x128 .f32 := mulf x x
  have lo : IVec S512x128 1 := cmpi .slt (iota .tc S512x128 32 [1] iota_S512x128_d1_w32) (broadcast S512x128 64#32)
  have z : FVec Ideal S512x128 .f32 := broadcast S512x128 (Scalar.ofBits (F := Ideal) .f32 0x00000000#32)
  have a : FVec Ideal S512x1 .f32 := shapeCast S512x1 (multiReduction .add [1] S512 (select lo sq z) 0x00000000#32 reduces_S512x128_S512 (.inl rfl) rfl) shapeCasts_S512_S512x1
  have b : FVec Ideal S512x1 .f32 := shapeCast S512x1 (multiReduction .add [1] S512 (select lo z sq) 0x00000000#32 reduces_S512x128_S512 (.inl rfl) rfl) shapeCasts_S512_S512x1
  have ms : FVec Ideal S512x128 .f32 := mulf (select lo (broadcastTo S512x128 (shapeCast S512x1 a shapeCasts_S512x1_S512x1) broadcasts_S512x1_S512x128)
    (broadcastTo S512x128 (shapeCast S512x1 b shapeCasts_S512x1_S512x1) broadcasts_S512x1_S512x128)) (broadcast S512x128 (Scalar.ofBits (F := Ideal) .f32 0x3C800000#32))
  mulf (mulf x (rsqrt (addf ms (broadcast S512x128 (Scalar.ofBits (F := Ideal) .f32 0x358637BD#32)))))
    (broadcastTo S512x128 (mulf g (broadcast S1x128 (Scalar.ofBits (F := Ideal) .f32 p))) broadcasts_S1x128_S512x128)

theorem half_lanes (f : Fin 128 → EReal) (l : Fin 128) :
    Scalar.select (IntOp.cmpi CmpIPredicate.slt (BitVec.ofNat 32 l.val) 64#32)
        (∑ x : Fin 128, Scalar.select (IntOp.cmpi CmpIPredicate.slt (BitVec.ofNat 32 x.val) 64#32) (f x) 0)
        (∑ x : Fin 128, Scalar.select (IntOp.cmpi CmpIPredicate.slt (BitVec.ofNat 32 x.val) 64#32) 0 (f x))
      = ∑ k : Fin 64, f ⟨64 * (l.val / 64) + k.val, by omega⟩ := by
  have hc : ∀ x : Fin 128, IntOp.cmpi CmpIPredicate.slt (BitVec.ofNat 32 x.val) 64#32 = if x.val < 64 then 1#1 else 0#1 := by decide +kernel
  have h1 : ∀ a b : EReal, Scalar.select 1#1 a b = a := fun _ _ => rfl
  have h0 : ∀ a b : EReal, Scalar.select 0#1 a b = b := fun _ _ => rfl
  simp only [hc]
  rw [Fin.sum_univ_add (a := 64) (b := 64), Fin.sum_univ_add (a := 64) (b := 64)]
  simp only [Fin.val_castAdd, Fin.val_natAdd]
  have a1 : ∀ i : Fin 64, i.val < 64 := fun i => i.isLt
  have a2 : ∀ i : Fin 64, ¬ 64 + i.val < 64 := fun i => by omega
  simp only [if_pos (a1 _), if_neg (a2 _), h1, h0, Finset.sum_const_zero, add_zero, zero_add]
  by_cases h : l.val < 64
  · rw [if_pos h, h1]
    refine Finset.sum_congr rfl fun k _ => congrArg f (Fin.ext ?_)
    show k.val = 64 * (l.val / 64) + k.val
    omega
  · rw [if_neg h, h0]
    refine Finset.sum_congr rfl fun k _ => congrArg f (Fin.ext ?_)
    show 64 + k.val = 64 * (l.val / 64) + k.val
    omega

theorem halfTower_apply (p : BitVec 32) (x : FVec Ideal S512x128 .f32) (g : FVec Ideal S1x128 .f32) (r : Fin 512) (l : Fin 128) :
    halfTower p x g (ix2 r l) = x (ix2 r l) * Ideal.rsqrt ((∑ k : Fin 64, x (ix2 r ⟨64 * (l.val / 64) + k.val, by omega⟩) * x (ix2 r ⟨64 * (l.val / 64) + k.val, by omega⟩)) * Ideal.ofBits .f32 0x3C800000#32
      + Ideal.ofBits .f32 0x358637BD#32) * (g (ix2 0 l) * Ideal.ofBits .f32 p) := by
  rw [← half_lanes (fun k => x (ix2 r k) * x (ix2 r k)) l]
  pointwise [halfTower]

/-- Eight blocks of 128 columns beside each other. -/
def catTower (x0 x1 x2 x3 x4 x5 x6 x7 : FVec Ideal S512x128 .f32) : FVec Ideal S512x1024 .bf16 :=
  truncf .bf16 (concatenate S512x1024 1 [⟨S512x128, x0⟩, ⟨S512x128, x1⟩, ⟨S512x128, x2⟩, ⟨S512x128, x3⟩, ⟨S512x128, x4⟩, ⟨S512x128, x5⟩, ⟨S512x128, x6⟩, ⟨S512x128, x7⟩]
    concatenates_S512x128_S512x128_S512x128_S512x128_S512x128_S512x128_S512x128_S512x128_S512x1024_d1) bitsLt_bf16_f32

theorem catTower_apply (x0 x1 x2 x3 x4 x5 x6 x7 : FVec Ideal S512x128 .f32) (r : Fin 512) (H : ℕ → EReal) (h0 : ∀ l : Fin 128, x0 (ix2 r l) = H l.val)
    (h1 : ∀ l : Fin 128, x1 (ix2 r l) = H (128 + l.val)) (h2 : ∀ l : Fin 128, x2 (ix2 r l) = H (256 + l.val)) (h3 : ∀ l : Fin 128, x3 (ix2 r l) = H (384 + l.val))
    (h4 : ∀ l : Fin 128, x4 (ix2 r l) = H (512 + l.val)) (h5 : ∀ l : Fin 128, x5 (ix2 r l) = H (640 + l.val)) (h6 : ∀ l : Fin 128, x6 (ix2 r l) = H (768 + l.val))
    (h7 : ∀ l : Fin 128, x7 (ix2 r l) = H (896 + l.val)) (l : Fin 1024) : catTower x0 x1 x2 x3 x4 x5 x6 x7 (ix2 r l) = H l.val := by
  pointwise [catTower]
  simp only [h0, h1, h2, h3, h4, h5, h6, h7]
  split_ifs <;> first | rfl | (refine congrArg H ?_; omega)

/-- 1024 columns normed in halves of their blocks of 128. -/
def normTower (p : BitVec 32) (A : FVec Ideal S512x1024 .f32) (g : FVec Ideal S1x128 .f32) : FVec Ideal S512x1024 .bf16 :=
  catTower (halfTower p (extractStridedSlice S512x128 ![0, 0] A slices_S512x1024_o0_0_S512x128) g)
    (halfTower p (extractStridedSlice S512x128 ![0, 128] A slices_S512x1024_o0_128_S512x128) g)
    (halfTower p (extractStridedSlice S512x128 ![0, 256] A slices_S512x1024_o0_256_S512x128) g)
    (halfTower p (extractStridedSlice S512x128 ![0, 384] A slices_S512x1024_o0_384_S512x128) g)
    (halfTower p (extractStridedSlice S512x128 ![0, 512] A slices_S512x1024_o0_512_S512x128) g)
    (halfTower p (extractStridedSlice S512x128 ![0, 640] A slices_S512x1024_o0_640_S512x128) g)
    (halfTower p (extractStridedSlice S512x128 ![0, 768] A slices_S512x1024_o0_768_S512x128) g)
    (halfTower p (extractStridedSlice S512x128 ![0, 896] A slices_S512x1024_o0_896_S512x128) g)

theorem slice_half (p : BitVec 32) (A : FVec Ideal S512x1024 .f32) (g : FVec Ideal S1x128 .f32) (r : Fin 512) (U G : ℕ → EReal) (hA : ∀ j : Fin 1024, A (ix2 r j) = U j.val)
    (hg : ∀ l : Fin 128, g (ix2 0 l) = G (l.val % 64)) (x : FVec Ideal S512x128 .f32) (b : Fin 8) (hx : ∀ l : Fin 128, x (ix2 r l) = A (ix2 r ⟨128 * b.val + l.val, by omega⟩)) (l : Fin 128) (j : ℕ)
    (hj : j = 128 * b.val + l.val) :
    halfTower p x g (ix2 r l) = U j * Ideal.rsqrt ((∑ k : Fin 64, U (64 * (j / 64) + k.val) * U (64 * (j / 64) + k.val)) * Ideal.ofBits .f32 0x3C800000#32
      + Ideal.ofBits .f32 0x358637BD#32) * (G (j % 64) * Ideal.ofBits .f32 p) := by
  have hb : ∀ n : ℕ, 128 * b.val + (64 * (l.val / 64) + n) = 64 * ((128 * b.val + l.val) / 64) + n := fun n => by omega
  subst hj
  rw [halfTower_apply]
  simp only [hx, hA, hg, hb]
  rw [show (128 * b.val + l.val) % 64 = l.val % 64 by omega]

theorem normTower_apply (p : BitVec 32) (A : FVec Ideal S512x1024 .f32) (g : FVec Ideal S1x128 .f32) (r : Fin 512) (U G : ℕ → EReal) (hA : ∀ j : Fin 1024, A (ix2 r j) = U j.val)
    (hg : ∀ l : Fin 128, g (ix2 0 l) = G (l.val % 64)) (j : Fin 1024) :
    normTower p A g (ix2 r j) = U j.val * Ideal.rsqrt ((∑ k : Fin 64, U (64 * (j.val / 64) + k.val) * U (64 * (j.val / 64) + k.val)) * Ideal.ofBits .f32 0x3C800000#32
      + Ideal.ofBits .f32 0x358637BD#32) * (G (j.val % 64) * Ideal.ofBits .f32 p) := by
  unfold normTower
  refine catTower_apply _ _ _ _ _ _ _ _ r (fun j => U j * Ideal.rsqrt ((∑ k : Fin 64, U (64 * (j / 64) + k.val) * U (64 * (j / 64) + k.val)) * Ideal.ofBits .f32 0x3C800000#32
      + Ideal.ofBits .f32 0x358637BD#32) * (G (j % 64) * Ideal.ofBits .f32 p)) ?_ ?_ ?_ ?_ ?_ ?_ ?_ ?_ j
  · exact fun l => slice_half p A g r U G hA hg _ 0 (fun l => by pointwise) l _ (by simp)
  · exact fun l => slice_half p A g r U G hA hg _ 1 (fun l => by pointwise) l _ (by simp)
  · exact fun l => slice_half p A g r U G hA hg _ 2 (fun l => by pointwise) l _ (by simp)
  · exact fun l => slice_half p A g r U G hA hg _ 3 (fun l => by pointwise) l _ (by simp)
  · exact fun l => slice_half p A g r U G hA hg _ 4 (fun l => by pointwise) l _ (by simp)
  · exact fun l => slice_half p A g r U G hA hg _ 5 (fun l => by pointwise) l _ (by simp)
  · exact fun l => slice_half p A g r U G hA hg _ 6 (fun l => by pointwise) l _ (by simp)
  · exact fun l => slice_half p A g r U G hA hg _ 7 (fun l => by pointwise) l _ (by simp)

end Cert.Proof.InProjIdeal
-- ==== Proof.InProjChunks.lean ====
/-
  The input projection's block: what its steps compute of the blocks they read, and what it leaves in its results' blocks.
-/
module

public import proofs.«01_k».proof.Proof.Gen.InProjIdeal.Frame
public import proofs.«01_k».proof.Proof.Projection
public import proofs.«01_k».proof.Proof.InProjTower
public import Idealize.ShloMosaic.Lib.Pointwise
public import Idealize.ShloMosaic.Lib.Pipeline.ValueKit

@[expose] public section

set_option maxRecDepth 16384

noncomputable section

namespace Cert.Proof.InProjIdeal

open Cert.InProjIdeal Cert.InProjIdeal.Gen
open Idealize.ShloMosaic

/-- The blocks of 512 rows from row `R` on hold the arguments. -/
structure Reads (N : Proj) (R : ℕ) (x0 : FVec Ideal S512x2048 .f32) (x1 : FVec Ideal S1x2048 .f32) (x2 x3 : FVec Ideal S1x1x1x2048 .f32) (x4 : FVec Ideal S2048x4096 .bf16)
    (x5 x6 : FVec Ideal S1x128 .f32) : Prop where
  h : R % 512 = 0
  x : ∀ y, x0 y = N.x (R + (y 0).val) (y 1).val
  g : ∀ y, x1 y = N.g (y 1).val
  sh : ∀ y, x2 y = N.md (R / 4096) (y 3).val
  sc : ∀ y, x3 y = N.md (R / 4096) (2048 + (y 3).val)
  w : ∀ y, x4 y = N.w (y 0).val (y 1).val
  qg : ∀ y, x5 y = N.qg ((y 1).val % 64)
  kg : ∀ y, x6 y = N.kg ((y 1).val % 64)

section

variable {N : Proj} {R : ℕ} {x0 : FVec Ideal S512x2048 .f32} {x1 : FVec Ideal S1x2048 .f32} {x2 x3 : FVec Ideal S1x1x1x2048 .f32} {x4 : FVec Ideal S2048x4096 .bf16}
    {x5 x6 : FVec Ideal S1x128 .f32} (h : Reads N R x0 x1 x2 x3 x4 x5 x6)
include h

theorem hid_apply (r : Fin 512) (l : Fin 2048) : k0_pay50 (F := Ideal) x0 x1 x2 x3 x4 x5 x6 (ix2 r l) = N.hid (R + r.val) l.val := by
  have e0 : ∀ l : Fin 2048, View.ld (Val := Elt Ideal) (e' := .f32) x0 r0_0 (ix2 r l) = N.x (R + r.val) l.val := fun l => eq_read₂ N.x (h.x (r0_0.idx (ix2 r l))) (show R + (0 + 1 * r.val) = R + r.val by omega) (show 0 + 1 * l.val = l.val by omega)
  have e1 : View.ld (Val := Elt Ideal) (e' := .f32) x1 r0_1 (ix2 0 l) = N.g l.val := eq_read N.g (h.g (r0_1.idx (ix2 0 l))) (show 0 + 1 * l.val = l.val by omega)
  have hR : (R + r.val) / 4096 = R / 4096 := by have := h.h; omega
  have e2 : View.ld (Val := Elt Ideal) (e' := .f32) x2 r0_2 (ix4 0 0 0 l) = N.md ((R + r.val) / 4096) l.val := eq_read₂ N.md (h.sh (r0_2.idx (ix4 0 0 0 l))) hR.symm (show 0 + 1 * l.val = l.val by omega)
  have e3 : View.ld (Val := Elt Ideal) (e' := .f32) x3 r0_2 (ix4 0 0 0 l) = N.md ((R + r.val) / 4096) (2048 + l.val) := eq_read₂ N.md (h.sc (r0_2.idx (ix4 0 0 0 l))) hR.symm (show 2048 + (0 + 1 * l.val) = 2048 + l.val by omega)
  unfold Proj.hid modulated
  simp only [← e0, ← e1, ← e2, ← e3]
  pointwise [k0_pay50, k0_pay2]

theorem q_apply (r : Fin 512) (j : Fin 1024) : k0_pay51 (F := Ideal) x0 x1 x2 x3 x4 x5 x6 (ix2 r j) = N.up (R + r.val) j.val := by
  have e4 : ∀ k : Fin 2048, View.ld (Val := Elt Ideal) (e' := .bf16) x4 r0_3 (ix2 k j) = N.w k.val j.val := fun k => eq_read₂ N.w (h.w (r0_3.idx (ix2 k j))) (show 0 + 1 * k.val = k.val by omega) (show 0 + 1 * j.val = j.val by omega)
  unfold Proj.up
  simp only [← e4, ← hid_apply h]
  pointwise [k0_pay51, k0_pay3, k0_pay50]

theorem k_apply (r : Fin 512) (j : Fin 1024) : k0_pay53 (F := Ideal) x0 x1 x2 x3 x4 x5 x6 (ix2 r j) = N.up (R + r.val) (1024 + j.val) := by
  have e4 : ∀ k : Fin 2048, View.ld (Val := Elt Ideal) (e' := .bf16) x4 r0_6 (ix2 k j) = N.w k.val (1024 + j.val) := fun k => eq_read₂ N.w (h.w (r0_6.idx (ix2 k j))) (show 0 + 1 * k.val = k.val by omega) (show 1024 + 1 * j.val = 1024 + j.val by omega)
  unfold Proj.up
  simp only [← e4, ← hid_apply h]
  pointwise [k0_pay53, k0_pay27]

theorem v_apply (r : Fin 512) (j : Fin 1024) : k0_pay49 (F := Ideal) (k0_pay50 x0 x1 x2 x3 x4 x5 x6) (View.ld x4 r0_8) (ix2 r j) = N.up (R + r.val) (2048 + j.val) := by
  have e4 : ∀ k : Fin 2048, View.ld (Val := Elt Ideal) (e' := .bf16) x4 r0_8 (ix2 k j) = N.w k.val (2048 + j.val) := fun k => eq_read₂ N.w (h.w (r0_8.idx (ix2 k j))) (show 0 + 1 * k.val = k.val by omega) (show 2048 + 1 * j.val = 2048 + j.val by omega)
  unfold Proj.up
  simp only [← e4, ← hid_apply h]
  pointwise [k0_pay49]

theorem u_apply (r : Fin 512) (j : Fin 1024) : k0_pay1 (F := Ideal) (k0_pay50 x0 x1 x2 x3 x4 x5 x6) (View.ld x4 r0_10) (ix2 r j) = N.up (R + r.val) (3072 + j.val) := by
  have e4 : ∀ k : Fin 2048, View.ld (Val := Elt Ideal) (e' := .bf16) x4 r0_10 (ix2 k j) = N.w k.val (3072 + j.val) := fun k => eq_read₂ N.w (h.w (r0_10.idx (ix2 k j))) (show 0 + 1 * k.val = k.val by omega) (show 3072 + 1 * j.val = 3072 + j.val by omega)
  unfold Proj.up
  simp only [← e4, ← hid_apply h]
  pointwise [k0_pay1]

theorem qg_apply (l : Fin 128) : k0_pay52 (F := Ideal) x0 x1 x2 x3 x4 x5 x6 (ix2 0 l) = N.qg (l.val % 64) := by
  have e5 : View.ld (Val := Elt Ideal) (e' := .f32) x5 r0_4 (ix2 0 l) = N.qg (l.val % 64) := eq_read N.qg (h.qg (r0_4.idx (ix2 0 l))) (show (0 + 1 * l.val) % 64 = l.val % 64 by omega)
  rw [← e5]
  pointwise [k0_pay52, k0_pay4]

theorem kg_apply (l : Fin 128) : k0_pay54 (F := Ideal) x0 x1 x2 x3 x4 x5 x6 (ix2 0 l) = N.kg (l.val % 64) := by
  have e6 : View.ld (Val := Elt Ideal) (e' := .f32) x6 r0_4 (ix2 0 l) = N.kg (l.val % 64) := eq_read N.kg (h.kg (r0_4.idx (ix2 0 l))) (show (0 + 1 * l.val) % 64 = l.val % 64 by omega)
  rw [← e6]
  pointwise [k0_pay54, k0_pay28]

theorem out7_apply (y : S512x3072.Idx) : out0_7 (F := Ideal) x0 x1 x2 x3 x4 x5 x6 y = N.qkv (R + (y 0).val) (y 1).val := by
  unfold out0_7
  refine View.canon_apply_of_pieces (Val := Elt Ideal) ((fun y => N.qkv (R + (y 0).val) (y 1).val) : S512x3072.Idx → Elt Ideal .bf16) _ ?_ y (cover0_7 _ _ _ y)
  intro p hp z
  simp only [List.mem_cons, List.not_mem_nil, or_false] at hp
  rcases hp with rfl | rfl | rfl
  · obtain ⟨r, j, rfl⟩ : ∃ (r : Fin 512) (j : Fin 1024), z = ix2 r j := ⟨z 0, z 1, eq_ix2 z⟩
    refine (v_apply h r j).trans ?_
    show _ = N.qkv (R + (0 + 1 * r.val)) (2048 + 1 * j.val)
    unfold Proj.qkv
    rw [if_neg (by omega), if_neg (by omega), Nat.zero_add, Nat.one_mul, Nat.one_mul]
  · obtain ⟨r, j, rfl⟩ : ∃ (r : Fin 512) (j : Fin 1024), z = ix2 r j := ⟨z 0, z 1, eq_ix2 z⟩
    show _ = N.qkv (R + (0 + 1 * r.val)) (1024 + 1 * j.val)
    unfold Proj.qkv
    rw [if_neg (by omega), if_pos (by omega), Nat.zero_add, Nat.one_mul, Nat.one_mul, Nat.add_sub_cancel_left]
    exact normTower_apply 0x3F800000#32 (k0_pay53 x0 x1 x2 x3 x4 x5 x6) (k0_pay54 x0 x1 x2 x3 x4 x5 x6) r (fun j => N.up (R + r.val) (1024 + j)) N.kg (k_apply h r) (kg_apply h) j
  · obtain ⟨r, j, rfl⟩ : ∃ (r : Fin 512) (j : Fin 1024), z = ix2 r j := ⟨z 0, z 1, eq_ix2 z⟩
    show _ = N.qkv (R + (0 + 1 * r.val)) (0 + 1 * j.val)
    unfold Proj.qkv
    rw [if_pos (by omega), Nat.zero_add, Nat.zero_add, Nat.one_mul, Nat.one_mul]
    exact normTower_apply 0x3E38AA3B#32 (k0_pay51 x0 x1 x2 x3 x4 x5 x6) (k0_pay52 x0 x1 x2 x3 x4 x5 x6) r (N.up (R + r.val)) N.qg (q_apply h r) (qg_apply h) j

theorem out8_apply (y : S512x1024.Idx) : out0_8 (F := Ideal) x0 x1 x2 x3 x4 x5 x6 y = N.u (R + (y 0).val) (y 1).val := by
  unfold out0_8
  refine View.canon_apply_of_pieces (Val := Elt Ideal) ((fun y => N.u (R + (y 0).val) (y 1).val) : S512x1024.Idx → Elt Ideal .f32) _ ?_ y (cover0_8 _ y)
  intro p hp z
  simp only [List.mem_cons, List.not_mem_nil, or_false] at hp
  subst hp
  obtain ⟨r, j, rfl⟩ : ∃ (r : Fin 512) (j : Fin 1024), z = ix2 r j := ⟨z 0, z 1, eq_ix2 z⟩
  refine (u_apply h r j).trans ?_
  show _ = N.u (R + (0 + 1 * r.val)) (0 + 1 * j.val)
  unfold Proj.u
  rw [Nat.zero_add, Nat.zero_add, Nat.one_mul, Nat.one_mul]

end

end Cert.Proof.InProjIdeal
-- ==== Proof.InProjValue.lean ====
/-
  The input projection's value: what each block the pipeline fetches holds of the arguments, and what the kernel leaves in
  its results.
-/
module

public import proofs.«01_k».proof.Proof.InProjChunks
public import proofs.«01_k».proof.Proof.Gen.InProjIdeal.Points
public import Idealize.ShloMosaic.Lib.Pipeline.ValueKit
public import Idealize.ShloMosaic.Lib.Claim

@[expose] public section

set_option maxRecDepth 16384

noncomputable section

namespace Cert.Proof.InProjIdeal

open Cert.InProjIdeal Cert.InProjIdeal.Gen
open Idealize.ShloMosaic Idealize.ShloMosaic.TcCoe Idealize.SL.Sem

/-- The index maps in closed form. -/
theorem idx : ∀ t : Fin cfg0.N, win0_0.index t = ![t.val, 0] ∧ win0_1.index t = ![0, 0] ∧ win0_2.index t = ![t.val / 8, 0, 0, 0] ∧ win0_3.index t = ![t.val / 8, 1, 0, 0]
    ∧ win0_4.index t = ![0, 0] ∧ win0_5.index t = ![0, 0] ∧ win0_6.index t = ![0, 0] ∧ win0_7.index t = ![t.val, 0] ∧ win0_8.index t = ![t.val, 0] :=
  (by decide +kernel : ∀ t : Fin grid0.N, _)

variable (m : (ℓ : Loc nD τ sig) → Buf (Elt Ideal) ℓ) (c : Dev nD)

/-- The arguments read at numbers. -/
abbrev args : Proj := proj (m ((c : Thread nD τ).loc main_arg0)) (m ((c : Thread nD τ).loc main_arg1)) (m ((c : Thread nD τ).loc main_arg2)) (m ((c : Thread nD τ).loc main_arg3))
  (m ((c : Thread nD τ).loc main_arg4)) (m ((c : Thread nD τ).loc main_arg5))

theorem blk0 (t : Fin cfg0.N) (y : S512x2048.Idx) : iblk m c 0 t y = (args m c).x (512 * t.val + (y 0).val) (y 1).val := by
  unfold iblk
  rw [show V m c (Pipeline.arrRef spec0 0) = V m c main_v0 from rfl]
  entry_read
  refine castRow_apply (m ((c : Thread nD τ).loc main_arg0)) shapeCasts_S2x4096x2048_S8192x2048 _ ?_ ?_
  · blk_simp [idx t]
    simp
    omega
  · blk_simp [idx t]

theorem blk1 (t : Fin cfg0.N) (y : S1x2048.Idx) : iblk m c 1 t y = (args m c).g (y 1).val := by
  unfold iblk
  rw [show V m c (Pipeline.arrRef spec0 1) = V m c main_v15 from rfl]
  entry_read
  refine castFlat_apply (m ((c : Thread nD τ).loc main_arg2)) shapeCasts_S1x2048_S2048 shapeCasts_S2048_S1x2048 _ ?_
  blk_simp [idx t]

theorem blk2 (t : Fin cfg0.N) (y : S1x1x1x2048.Idx) : iblk m c 2 t y = (args m c).md (t.val / 8) (y 3).val := by
  unfold iblk
  rw [show V m c (Pipeline.arrRef spec0 2) = V m c main_v1 from rfl]
  entry_read
  refine (castPart_apply (m ((c : Thread nD τ).loc main_arg1)) shapeCasts_S2x12288_S2x6x1x2048 _ (b := t.val / 8) (p := 0) (l := (y 3).val) ?_ ?_ ?_).trans ?_
  · blk_simp [idx t]
  · blk_simp [idx t]
  · blk_simp [idx t]
  · rw [Nat.mul_zero, Nat.zero_add]
    rfl

theorem blk3 (t : Fin cfg0.N) (y : S1x1x1x2048.Idx) : iblk m c 3 t y = (args m c).md (t.val / 8) (2048 + (y 3).val) := by
  unfold iblk
  rw [show V m c (Pipeline.arrRef spec0 3) = V m c main_v1 from rfl]
  entry_read
  refine castPart_apply (m ((c : Thread nD τ).loc main_arg1)) shapeCasts_S2x12288_S2x6x1x2048 _ (b := t.val / 8) (p := 1) (l := (y 3).val) ?_ ?_ ?_
  · blk_simp [idx t]
  · blk_simp [idx t]
  · blk_simp [idx t]

theorem blk4 (t : Fin cfg0.N) (y : S2048x4096.Idx) : iblk m c 4 t y = (args m c).w (y 0).val (y 1).val := by
  unfold iblk
  rw [show V m c (Pipeline.arrRef spec0 4) = V m c main_v4 from rfl]
  entry_read
  refine cast3_apply (m ((c : Thread nD τ).loc main_arg3)) shapeCasts_S1x2048x4096_S2048x4096 _ ?_ ?_
  · blk_simp [idx t]
  · blk_simp [idx t]

/-- A row of 64 weights beside itself. -/
theorem twice_apply (X : S1x64.Idx → EReal) (i : S1x128.Idx) {j : ℕ} (hj : (i 1).val = j) :
    shapeCast S1x128 (shapeCast S128 (broadcastInDim S2x64 ![0, 1] bcast_S1x64_S2x64_0_1 (shapeCast S1x64 (shapeCast S64 X shapeCasts_S1x64_S64) shapeCasts_S64_S1x64)) shapeCasts_S2x64_S128) shapeCasts_S128_S1x128 i
      = at2 X 0 (j % 64) := by
  have h0 : (i 0).val = 0 := by have : (i 0).val < 1 := (i 0).isLt; omega
  have h1 : (i 1).val < 128 := (i 1).isLt
  refine (shapeCast_apply _ _ i (ix1 (i 1)) (by rw [Shape.rowMajor_val_one, Shape.rowMajor_val_two]; show (i 1).val = (i 0).val * 128 + (i 1).val; omega)).trans ?_
  refine (shapeCast_apply _ _ (ix1 (i 1)) (ix2 (⟨(i 1).val / 64, by omega⟩ : Fin 2) (⟨(i 1).val % 64, by omega⟩ : Fin 64)) (by rw [Shape.rowMajor_val_one, Shape.rowMajor_val_two]; show (i 1).val / 64 * 64 + (i 1).val % 64 = (i 1).val; omega)).trans ?_
  exact castFlat_apply X _ _ _ (by show (i 1).val % 64 = j % 64; rw [hj])

theorem blk5 (t : Fin cfg0.N) (y : S1x128.Idx) : iblk m c 5 t y = (args m c).qg ((y 1).val % 64) := by
  unfold iblk
  rw [show V m c (Pipeline.arrRef spec0 5) = V m c main_v10 from rfl]
  entry_read
  refine twice_apply (m ((c : Thread nD τ).loc main_arg4)) _ ?_
  blk_simp [idx t]

theorem blk6 (t : Fin cfg0.N) (y : S1x128.Idx) : iblk m c 6 t y = (args m c).kg ((y 1).val % 64) := by
  unfold iblk
  rw [show V m c (Pipeline.arrRef spec0 6) = V m c main_v14 from rfl]
  entry_read
  refine twice_apply (m ((c : Thread nD τ).loc main_arg5)) _ ?_
  blk_simp [idx t]

theorem reads (t : Fin cfg0.N) : Reads (args m c) (512 * t.val) (iblk m c 0 t) (iblk m c 1 t) (iblk m c 2 t) (iblk m c 3 t) (iblk m c 4 t) (iblk m c 5 t) (iblk m c 6 t) where
  h := by omega
  x := blk0 m c t
  g := blk1 m c t
  sh := fun y => (blk2 m c t y).trans (congrArg (fun b => (args m c).md b (y 3).val) (by omega))
  sc := fun y => (blk3 m c t y).trans (congrArg (fun b => (args m c).md b (2048 + (y 3).val)) (by omega))
  w := blk4 m c t
  qg := blk5 m c t
  kg := blk6 m c t

/-- What the kernel leaves in its results. -/
def result0 : FVec Ideal S8192x3072 .bf16 := fun i => (args m c).qkv (i 0).val (i 1).val

def result1 : FVec Ideal S8192x1024 .f32 := fun i => (args m c).u (i 0).val (i 1).val

theorem end7 : (dats (F := Ideal) m 0 c).arrAt 7 cfg0.N = result0 m c := by
  refine (dats m 0 c).arrAt_eq_of_covers 7 (result0 m c) (by decide +kernel) (fun t hf y => ?_)
  rw [after0_7]
  blk_simp
  refine (out7_apply (reads m c t) _).trans ?_
  unfold result0
  refine congrArg₂ _ ?_ ?_
  · blk_simp [idx t]
    simp
    omega
  · blk_simp [idx t]

theorem end8 : (dats (F := Ideal) m 0 c).arrAt 8 cfg0.N = result1 m c := by
  refine (dats m 0 c).arrAt_eq_of_covers 8 (result1 m c) (by decide +kernel) (fun t hf y => ?_)
  rw [after0_8]
  blk_simp
  refine (out8_apply (reads m c t) _).trans ?_
  unfold result1
  refine congrArg₂ _ ?_ ?_
  · blk_simp [idx t]
    simp
    omega
  · blk_simp [idx t]

theorem run (ρ : Dev nD → PrngReg) : θ_run defs (onTc (τ := τ) (main (F := Ideal))) ⟨m, fun _ => 0, ρ⟩ (fun r => ∀ c : Dev nD,
      r.2.mem ((c.tc : Thread nD τ).loc main_v16_0) = result0 m c
      ∧ r.2.mem ((c.tc : Thread nD τ).loc main_v16_1) = result1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ⟨((h.1 c).1 7).trans (end7 m c), ((h.1 c).1 8).trans (end8 m c), h.2 c⟩) (θ_run_and (run_main m ρ) (unchanged m ρ))

end Cert.Proof.InProjIdeal
-- ==== Proof.InProjReferenceValue.lean ====
/-
  What the input projection's reference computes: the projection of its arguments.
-/
module

public import proofs.«01_k».proof.Proof.Projection
public import proofs.«01_k».proof.Proof.Gen.InProjReferenceIdeal.Read
public import Idealize.ShloMosaic.Lib.KernelVsHost

@[expose] public section

set_option maxRecDepth 16384
set_option maxHeartbeats 1600000

noncomputable section

namespace Cert.Proof.InProjReferenceIdeal

open Cert.InProjReferenceIdeal Cert.InProjReferenceIdeal.Read
open Idealize.ShloMosaic

variable (x0 : FVec Ideal S2x4096x2048 .f32) (x1 : FVec Ideal S2x12288 .f32) (x2 : FVec Ideal S1x2048 .f32) (x3 : FVec Ideal S1x2048x4096 .f32)
  (x4 x5 : FVec Ideal S1x64 .f32)

theorem hid_apply (i : S2x4096x2048.Idx) : val_main_v27 (F := Ideal) x0 x1 x2 i = (proj x0 x1 x2 x3 x4 x5).hid ((i 0).val * 4096 + (i 1).val) (i 2).val := by
  have h0 : (i 0).val < 2 := (i 0).isLt
  have h1 : (i 1).val < 4096 := (i 1).isLt
  have h2 : (i 2).val < 2048 := (i 2).isLt
  have hb : ((i 0).val * 4096 + (i 1).val) / 4096 = (i 0).val := by omega
  rw [val_main_v27_apply, val_main_v26_apply, val_main_v25_apply, val_main_v24_apply, val_main_v23_apply, val_main_v22_apply, val_main_v21_apply, val_main_cst_2_apply, val_main_v20_apply,
    val_main_v19_apply, val_main_v18_apply, val_main_v17_apply, val_main_v16_apply, val_main_v15_apply, val_main_v14_apply, val_main_v13_apply, val_main_v12_apply, val_main_cst_1_apply,
    val_main_v11_apply, val_main_v10_apply, val_main_cst_0_apply, val_main_v9_apply, val_main_v8_apply, val_main_v6_apply, val_main_v1_apply, val_main_v0_apply]
  unfold Proj.hid modulated
  rw [hb]
  have hx : ∀ k : Fin 2048, val_main_v7 (F := Ideal) x0 (idx_main_v8 (idx_main_v9 (idx_main_v15 i)) k) = atRow x0 ((i 0).val * 4096 + (i 1).val) k.val * atRow x0 ((i 0).val * 4096 + (i 1).val) k.val := fun k => by
    have e := eq_atRow x0 (idx_main_v8 (idx_main_v9 (idx_main_v15 i)) k) (i := (i 0).val * 4096 + (i 1).val) (j := k.val) rfl rfl
    rw [val_main_v7_apply]
    exact congrArg₂ (· * ·) e e
  simp only [hx]
  refine congrArg₂ (· + ·) (congrArg₂ (· * ·) (congrArg₂ (· * ·) (congrArg₂ (· * ·) ?_ (congrArg Ideal.rsqrt (congrArg (· + _) (congrArg (Ideal.div · _) ?_)))) ?_) (congrArg₂ (· + ·) ?_ ?_)) ?_
  · exact eq_atRow x0 _ rfl rfl
  · exact zero_add_eq rfl
  · refine eq_at2 x2 _ rfl ?_
    dsimp only [idx_main_v6, idx_main_v17, idx_main_v18]
    omega
  · exact Ideal.ofBits_one_f32
  · exact eq_at2 x1 _ rfl rfl
  · exact eq_at2 x1 _ rfl rfl

theorem up_apply (i : S2x4096x4096.Idx) : val_main_v29 (F := Ideal) x0 x1 x2 x3 i = (proj x0 x1 x2 x3 x4 x5).up ((i 0).val * 4096 + (i 1).val) (i 2).val := by
  have h2 : (i 2).val < 4096 := (i 2).isLt
  rw [val_main_v29_apply]
  unfold Proj.up
  refine Finset.sum_congr rfl fun k _ => ?_
  rw [val_main_v28_apply, hid_apply x0 x1 x2 x3 x4 x5]
  refine congrArg₂ (· * ·) rfl (eq_at3 x3 _ ?_ ?_)
  · dsimp only [idx_main_v28, ridx_main_v29]
    omega
  · dsimp only [idx_main_v28, ridx_main_v29]
    omega

theorem ofBits_64 : Ideal.ofBits .f32 0x42800000#32 = ((64 : ℝ) : EReal) := by
  simp [Ideal.ofBits, Ideal.ieee, -EReal.coe_mul]; norm_num
theorem ofBits_64th : Ideal.ofBits .f32 0x3C800000#32 = ((1 / 64 : ℝ) : EReal) := by
  simp [Ideal.ofBits, Ideal.ieee, -EReal.coe_mul]; norm_num

theorem div_64 (x : EReal) : Ideal.div x (Ideal.ofBits .f32 0x42800000#32) = x * Ideal.ofBits .f32 0x3C800000#32 := by
  rw [ofBits_64, ofBits_64th, Ideal.div_coe (by norm_num)]

/-- A projected row with its groups of 64 on three axes. -/
theorem q_apply (i : S2x4096x8x2x64.Idx) : val_main_v34 (F := Ideal) x0 x1 x2 x3 i = (proj x0 x1 x2 x3 x4 x5).up ((i 0).val * 4096 + (i 1).val) (((i 2).val * 2 + (i 3).val) * 64 + (i 4).val) := by
  have h0 : (i 0).val < 2 := (i 0).isLt
  have h1 : (i 1).val < 4096 := (i 1).isLt
  have h2 : (i 2).val < 8 := (i 2).isLt
  have h3 : (i 3).val < 2 := (i 3).isLt
  have h4 : (i 4).val < 64 := (i 4).isLt
  rw [val_main_v34_apply, val_main_v30_apply, up_apply x0 x1 x2 x3 x4 x5]
  refine congrArg₂ _ ?_ ?_
  · dsimp only [idx_main_v34, idx_main_v30]
    omega
  · dsimp only [idx_main_v34, idx_main_v30]
    omega

theorem k_apply (i : S2x4096x8x2x64.Idx) : val_main_v51 (F := Ideal) x0 x1 x2 x3 i = (proj x0 x1 x2 x3 x4 x5).up ((i 0).val * 4096 + (i 1).val) (1024 + (((i 2).val * 2 + (i 3).val) * 64 + (i 4).val)) := by
  have h0 : (i 0).val < 2 := (i 0).isLt
  have h1 : (i 1).val < 4096 := (i 1).isLt
  have h2 : (i 2).val < 8 := (i 2).isLt
  have h3 : (i 3).val < 2 := (i 3).isLt
  have h4 : (i 4).val < 64 := (i 4).isLt
  rw [val_main_v51_apply, val_main_v31_apply, up_apply x0 x1 x2 x3 x4 x5]
  refine congrArg₂ _ ?_ ?_
  · dsimp only [idx_main_v51, idx_main_v31]
    omega
  · dsimp only [idx_main_v51, idx_main_v31]
    omega

theorem qn_apply (i : S2x4096x8x2x64.Idx) : val_main_v50 (F := Ideal) x0 x1 x2 x3 x4 i
    = headNormed ((proj x0 x1 x2 x3 x4 x5).up ((i 0).val * 4096 + (i 1).val)) (proj x0 x1 x2 x3 x4 x5).qg (Ideal.ofBits .f32 0x3E38AA3B#32) (((i 2).val * 2 + (i 3).val) * 64 + (i 4).val) := by
  have h4 : (i 4).val < 64 := (i 4).isLt
  have hd : (((i 2).val * 2 + (i 3).val) * 64 + (i 4).val) / 64 = (i 2).val * 2 + (i 3).val := by omega
  have hm : (((i 2).val * 2 + (i 3).val) * 64 + (i 4).val) % 64 = (i 4).val := by omega
  rw [val_main_v50_apply, val_main_v49_apply, val_main_cst_6_apply, val_main_v48_apply, val_main_v47_apply, val_main_v46_apply, val_main_v45_apply, val_main_v44_apply, val_main_v43_apply,
    val_main_v42_apply, val_main_v41_apply, val_main_cst_5_apply, val_main_v40_apply, val_main_v39_apply, val_main_cst_4_apply, val_main_v38_apply, val_main_v37_apply, val_main_v35_apply, q_apply x0 x1 x2 x3 x4 x5]
  unfold headNormed
  rw [hd, hm, ← div_64, ← mul_assoc]
  have hx : ∀ k : Fin 64, val_main_v36 (F := Ideal) x0 x1 x2 x3 (idx_main_v37 (idx_main_v38 (idx_main_v44 i)) k)
      = (proj x0 x1 x2 x3 x4 x5).up ((i 0).val * 4096 + (i 1).val) (64 * ((i 2).val * 2 + (i 3).val) + k.val) * (proj x0 x1 x2 x3 x4 x5).up ((i 0).val * 4096 + (i 1).val) (64 * ((i 2).val * 2 + (i 3).val) + k.val) := fun k => by
    rw [val_main_v36_apply, q_apply x0 x1 x2 x3 x4 x5, Nat.mul_comm 64]
    rfl
  simp only [hx]
  refine congrArg₂ (· * ·) (congrArg₂ (· * ·) (congrArg₂ (· * ·) rfl (congrArg Ideal.rsqrt (congrArg (· + _) (congrArg (Ideal.div · _) ?_)))) ?_) rfl
  · exact zero_add_eq rfl
  · refine eq_at2 x4 _ rfl ?_
    dsimp only [idx_main_v35, idx_main_v46, idx_main_v47]
    omega

theorem kn_apply (i : S2x4096x8x2x64.Idx) : val_main_v65 (F := Ideal) x0 x1 x2 x3 x5 i
    = headNormed (fun j => (proj x0 x1 x2 x3 x4 x5).up ((i 0).val * 4096 + (i 1).val) (1024 + j)) (proj x0 x1 x2 x3 x4 x5).kg (Ideal.ofBits .f32 0x3F800000#32) (((i 2).val * 2 + (i 3).val) * 64 + (i 4).val) := by
  have h4 : (i 4).val < 64 := (i 4).isLt
  have hd : (((i 2).val * 2 + (i 3).val) * 64 + (i 4).val) / 64 = (i 2).val * 2 + (i 3).val := by omega
  have hm : (((i 2).val * 2 + (i 3).val) * 64 + (i 4).val) % 64 = (i 4).val := by omega
  rw [val_main_v65_apply, val_main_v64_apply, val_main_v63_apply, val_main_v62_apply, val_main_v61_apply, val_main_v60_apply,
    val_main_v59_apply, val_main_v58_apply, val_main_cst_9_apply, val_main_v57_apply, val_main_v56_apply, val_main_cst_8_apply, val_main_v55_apply, val_main_v54_apply, val_main_v52_apply, k_apply x0 x1 x2 x3 x4 x5]
  unfold headNormed
  rw [hd, hm, ← div_64, Ideal.ofBits_one_f32, mul_one]
  have hx : ∀ k : Fin 64, val_main_v53 (F := Ideal) x0 x1 x2 x3 (idx_main_v54 (idx_main_v55 (idx_main_v61 i)) k)
      = (proj x0 x1 x2 x3 x4 x5).up ((i 0).val * 4096 + (i 1).val) (1024 + (64 * ((i 2).val * 2 + (i 3).val) + k.val)) * (proj x0 x1 x2 x3 x4 x5).up ((i 0).val * 4096 + (i 1).val) (1024 + (64 * ((i 2).val * 2 + (i 3).val) + k.val)) := fun k => by
    rw [val_main_v53_apply, k_apply x0 x1 x2 x3 x4 x5, Nat.mul_comm 64]
    rfl
  simp only [hx]
  refine congrArg₂ (· * ·) (congrArg₂ (· * ·) rfl (congrArg Ideal.rsqrt (congrArg (· + _) (congrArg (Ideal.div · _) ?_)))) ?_
  · exact zero_add_eq rfl
  · refine eq_at2 x5 _ rfl ?_
    dsimp only [idx_main_v52, idx_main_v63, idx_main_v64]
    omega

theorem qs_apply (i : S2x4096x1024.Idx) : val_main_v66 (F := Ideal) x0 x1 x2 x3 x4 i = headNormed ((proj x0 x1 x2 x3 x4 x5).up ((i 0).val * 4096 + (i 1).val)) (proj x0 x1 x2 x3 x4 x5).qg (Ideal.ofBits .f32 0x3E38AA3B#32) (i 2).val := by
  have h0 : (i 0).val < 2 := (i 0).isLt
  have h1 : (i 1).val < 4096 := (i 1).isLt
  have h2 : (i 2).val < 1024 := (i 2).isLt
  rw [val_main_v66_apply, qn_apply x0 x1 x2 x3 x4 x5]
  refine congrArg₂ (fun R j => headNormed ((proj x0 x1 x2 x3 x4 x5).up R) (proj x0 x1 x2 x3 x4 x5).qg (Ideal.ofBits .f32 0x3E38AA3B#32) j) ?_ ?_
  · dsimp only [idx_main_v66]
    omega
  · dsimp only [idx_main_v66]
    omega

theorem ks_apply (i : S2x4096x1024.Idx) : val_main_v67 (F := Ideal) x0 x1 x2 x3 x5 i = headNormed (fun j => (proj x0 x1 x2 x3 x4 x5).up ((i 0).val * 4096 + (i 1).val) (1024 + j)) (proj x0 x1 x2 x3 x4 x5).kg (Ideal.ofBits .f32 0x3F800000#32) (i 2).val := by
  have h0 : (i 0).val < 2 := (i 0).isLt
  have h1 : (i 1).val < 4096 := (i 1).isLt
  have h2 : (i 2).val < 1024 := (i 2).isLt
  rw [val_main_v67_apply, kn_apply x0 x1 x2 x3 x4 x5]
  refine congrArg₂ (fun R j => headNormed (fun j => (proj x0 x1 x2 x3 x4 x5).up R (1024 + j)) (proj x0 x1 x2 x3 x4 x5).kg (Ideal.ofBits .f32 0x3F800000#32) j) ?_ ?_
  · dsimp only [idx_main_v67]
    omega
  · dsimp only [idx_main_v67]
    omega

theorem cat_apply (i : S2x4096x3072.Idx) : val_main_v68 (F := Ideal) x0 x1 x2 x3 x4 x5 i = (proj x0 x1 x2 x3 x4 x5).qkv ((i 0).val * 4096 + (i 1).val) (i 2).val := by
  have h0 : (i 0).val < 2 := (i 0).isLt
  have h1 : (i 1).val < 4096 := (i 1).isLt
  have h2 : (i 2).val < 3072 := (i 2).isLt
  unfold val_main_v68 Proj.qkv
  by_cases hq : (i 2).val < 1024
  · rw [if_pos hq]
    refine (concatenate_apply_piece 2 _ _ i 0 (by show 0 < 3; decide) S2x4096x1024 (val_main_v66 (F := Ideal) x0 x1 x2 x3 x4) rfl rfl 0 rfl (ix3 (i 0) (i 1) ⟨(i 2).val, hq⟩) ?_ (Nat.zero_add _)).trans ?_
    · intro b hb
      match b with
      | ⟨0, _⟩ => rfl
      | ⟨1, _⟩ => rfl
      | ⟨2, _⟩ => exact absurd rfl hb
    · exact qs_apply x0 x1 x2 x3 x4 x5 _
  · rw [if_neg hq]
    by_cases hk : (i 2).val < 2048
    · rw [if_pos hk]
      refine (concatenate_apply_piece 2 _ _ i 1 (by show 1 < 3; decide) S2x4096x1024 (val_main_v67 (F := Ideal) x0 x1 x2 x3 x5) rfl rfl 1024 rfl (ix3 (i 0) (i 1) ⟨(i 2).val - 1024, by omega⟩) ?_ ?_).trans ?_
      · intro b hb
        match b with
        | ⟨0, _⟩ => rfl
        | ⟨1, _⟩ => rfl
        | ⟨2, _⟩ => exact absurd rfl hb
      · show 1024 + ((i 2).val - 1024) = (i 2).val
        omega
      · exact ks_apply x0 x1 x2 x3 x4 x5 _
    · rw [if_neg hk]
      refine (concatenate_apply_piece 2 _ _ i 2 (by show 2 < 3; decide) S2x4096x1024 (val_main_v32 (F := Ideal) x0 x1 x2 x3) rfl rfl 2048 rfl (ix3 (i 0) (i 1) ⟨(i 2).val - 2048, by omega⟩) ?_ ?_).trans ?_
      · intro b hb
        match b with
        | ⟨0, _⟩ => rfl
        | ⟨1, _⟩ => rfl
        | ⟨2, _⟩ => exact absurd rfl hb
      · show 2048 + ((i 2).val - 2048) = (i 2).val
        omega
      · rw [val_main_v32_apply, up_apply x0 x1 x2 x3 x4 x5]
        refine congrArg₂ _ rfl ?_
        show 2048 + ((i 2).val - 2048) = (i 2).val
        omega

theorem out0_apply (i : S8192x3072.Idx) : val_main_v70 (F := Ideal) x0 x1 x2 x3 x4 x5 i = (proj x0 x1 x2 x3 x4 x5).qkv (i 0).val (i 1).val := by
  have h0 : (i 0).val < 8192 := (i 0).isLt
  have h1 : (i 1).val < 3072 := (i 1).isLt
  rw [val_main_v70_apply, val_main_v69_apply, cat_apply]
  refine congrArg₂ (proj x0 x1 x2 x3 x4 x5).qkv ?_ ?_
  · dsimp only [idx_main_v69]
    omega
  · dsimp only [idx_main_v69]
    omega

theorem out1_apply (i : S8192x1024.Idx) : val_main_v71 (F := Ideal) x0 x1 x2 x3 i = (proj x0 x1 x2 x3 x4 x5).u (i 0).val (i 1).val := by
  have h0 : (i 0).val < 8192 := (i 0).isLt
  have h1 : (i 1).val < 1024 := (i 1).isLt
  rw [val_main_v71_apply, val_main_v33_apply, up_apply x0 x1 x2 x3 x4 x5]
  unfold Proj.u
  refine congrArg₂ _ ?_ ?_
  · dsimp only [idx_main_v71, idx_main_v33]
    omega
  · dsimp only [idx_main_v71, idx_main_v33]
    omega

end Cert.Proof.InProjReferenceIdeal
-- ==== Proof.Mixing.lean ====
/-
  The mixing and the output projection as functions of row and column numbers.
-/
module

public import proofs.«01_k».proof.Proof.Projection

@[expose] public section

noncomputable section

namespace Cert.Proof

open Idealize.ShloMosaic

/-- The arguments read at numbers: the layer's input by row, the attention's and the recurrence's outputs, the gate's
    weight and bias, the output projection's weight, the modulation by sequence and the norm's weight. -/
structure Mix where
  x : ℕ → ℕ → EReal
  a : ℕ → ℕ → EReal
  y : ℕ → ℕ → EReal
  wg : ℕ → ℕ → EReal
  bg : ℕ → EReal
  wo : ℕ → ℕ → EReal
  md : ℕ → ℕ → EReal
  g : ℕ → EReal

namespace Mix

variable (N : Mix)

/-- The recurrence's output, activated and gated by itself. -/
def glu (R j : ℕ) : EReal :=
  KernelIdeal.gelu (N.y R j) * Ideal.logistic ((∑ k : Fin 1024, KernelIdeal.gelu (N.y R k.val) * N.wg k.val j) + N.bg j)

/-- The attention's output and the gated one, projected together. -/
def mixed (R l : ℕ) : EReal := (∑ k : Fin 1024, N.a R k.val * N.wo k.val l) + ∑ k : Fin 1024, N.glu R k.val * N.wo (1024 + k.val) l

/-- The residual row. -/
def mid (R l : ℕ) : EReal := N.x R l + N.md (R / 4096) (4096 + l) * N.mixed R l

/-- The residual row normed and modulated. -/
def hid (R l : ℕ) : EReal := modulated (N.mid R) N.g (fun l => N.md (R / 4096) (6144 + l)) (fun l => N.md (R / 4096) (8192 + l)) l

end Mix

/-- The arguments read at numbers. -/
def mixing (x0 : (⟨3, ![2, 4096, 2048]⟩ : Shape).Idx → EReal) (x1 x2 : (⟨2, ![8192, 1024]⟩ : Shape).Idx → EReal) (x3 : (⟨3, ![1, 1024, 1024]⟩ : Shape).Idx → EReal)
    (x4 : (⟨2, ![1, 1024]⟩ : Shape).Idx → EReal) (x5 : (⟨3, ![1, 2048, 2048]⟩ : Shape).Idx → EReal) (x6 : (⟨2, ![2, 12288]⟩ : Shape).Idx → EReal)
    (x7 : (⟨2, ![1, 2048]⟩ : Shape).Idx → EReal) : Mix where
  x := atRow x0
  a := at2 x1
  y := at2 x2
  wg := at3 x3
  bg := at2 x4 0
  wo := at3 x5
  md := at2 x6
  g := at2 x7 0

end Cert.Proof
-- ==== Proof.MixOutChunks.lean ====
/-
  The mixing's block: what its steps compute of the blocks they read, and what it leaves in its results' blocks.
-/
module

public import proofs.«01_k».proof.Proof.Gen.MixOutIdeal.Frame
public import proofs.«01_k».proof.Proof.Mixing
public import Idealize.ShloMosaic.Lib.Pointwise
public import Idealize.ShloMosaic.Lib.Pipeline.ValueKit

@[expose] public section

set_option maxRecDepth 16384

noncomputable section

namespace Cert.Proof.MixOutIdeal

open Cert.MixOutIdeal Cert.MixOutIdeal.Gen
open Idealize.ShloMosaic

/-- The blocks of 512 rows from row `R` on hold the arguments. -/
structure Reads (N : Mix) (R : ℕ) (x0 : FVec Ideal S512x2048 .f32) (x1 : FVec Ideal S512x1024 .bf16) (x2 : FVec Ideal S512x1024 .f32) (x3 : FVec Ideal S1024x1024 .bf16)
    (x4 : FVec Ideal S1x1024 .f32) (x5 : FVec Ideal S2048x2048 .bf16) (x6 : FVec Ideal S1x1x1x2048 .f32) (x7 : FVec Ideal S1x2048 .f32) (x8 x9 : FVec Ideal S1x1x1x2048 .f32) : Prop where
  h : R % 512 = 0
  x : ∀ y, x0 y = N.x (R + (y 0).val) (y 1).val
  a : ∀ y, x1 y = N.a (R + (y 0).val) (y 1).val
  y : ∀ y, x2 y = N.y (R + (y 0).val) (y 1).val
  wg : ∀ y, x3 y = N.wg (y 0).val (y 1).val
  bg : ∀ y, x4 y = N.bg (y 1).val
  wo : ∀ y, x5 y = N.wo (y 0).val (y 1).val
  gt : ∀ y, x6 y = N.md (R / 4096) (4096 + (y 3).val)
  g : ∀ y, x7 y = N.g (y 1).val
  sh : ∀ y, x8 y = N.md (R / 4096) (6144 + (y 3).val)
  sc : ∀ y, x9 y = N.md (R / 4096) (8192 + (y 3).val)

section

variable {N : Mix} {R : ℕ} {x0 : FVec Ideal S512x2048 .f32} {x1 : FVec Ideal S512x1024 .bf16} {x2 : FVec Ideal S512x1024 .f32} {x3 : FVec Ideal S1024x1024 .bf16}
    {x4 : FVec Ideal S1x1024 .f32} {x5 : FVec Ideal S2048x2048 .bf16} {x6 : FVec Ideal S1x1x1x2048 .f32} {x7 : FVec Ideal S1x2048 .f32} {x8 x9 : FVec Ideal S1x1x1x2048 .f32}
    (h : Reads N R x0 x1 x2 x3 x4 x5 x6 x7 x8 x9)
include h

theorem mixed_apply (r : Fin 512) (l : Fin 2048) : k0_pay5 (F := Ideal) x0 x1 x2 x3 x4 x5 x6 x7 x8 x9 (ix2 r l) = N.mixed (R + r.val) l.val := by
  have e1 : ∀ k : Fin 1024, View.ld (Val := Elt Ideal) (e' := .bf16) x1 r0_0 (ix2 r k) = N.a (R + r.val) k.val := fun k => eq_read₂ N.a (h.a (r0_0.idx (ix2 r k))) (show R + (0 + 1 * r.val) = R + r.val by omega) (show 0 + 1 * k.val = k.val by omega)
  have e2 : ∀ k : Fin 1024, View.ld (Val := Elt Ideal) (e' := .f32) x2 r0_0 (ix2 r k) = N.y (R + r.val) k.val := fun k => eq_read₂ N.y (h.y (r0_0.idx (ix2 r k))) (show R + (0 + 1 * r.val) = R + r.val by omega) (show 0 + 1 * k.val = k.val by omega)
  have e3 : ∀ k j : Fin 1024, View.ld (Val := Elt Ideal) (e' := .bf16) x3 r0_1 (ix2 k j) = N.wg k.val j.val := fun k j => eq_read₂ N.wg (h.wg (r0_1.idx (ix2 k j))) (show 0 + 1 * k.val = k.val by omega) (show 0 + 1 * j.val = j.val by omega)
  have e4 : ∀ j : Fin 1024, View.ld (Val := Elt Ideal) (e' := .f32) x4 r0_2 (ix2 0 j) = N.bg j.val := fun j => eq_read N.bg (h.bg (r0_2.idx (ix2 0 j))) (show 0 + 1 * j.val = j.val by omega)
  have e5 : ∀ k : Fin 1024, View.ld (Val := Elt Ideal) (e' := .bf16) x5 r0_3 (ix2 k l) = N.wo k.val l.val := fun k => eq_read₂ N.wo (h.wo (r0_3.idx (ix2 k l))) (show 0 + 1 * k.val = k.val by omega) (show 0 + 1 * l.val = l.val by omega)
  have e6 : ∀ k : Fin 1024, View.ld (Val := Elt Ideal) (e' := .bf16) x5 r0_4 (ix2 k l) = N.wo (1024 + k.val) l.val := fun k => eq_read₂ N.wo (h.wo (r0_4.idx (ix2 k l))) (show 1024 + 1 * k.val = 1024 + k.val by omega) (show 0 + 1 * l.val = l.val by omega)
  unfold Mix.mixed Mix.glu KernelIdeal.gelu
  simp only [← e1, ← e2, ← e3, ← e4, ← e5, ← e6]
  pointwise [k0_pay5, k0_pay3]

theorem gate_apply (r : Fin 512) (l : Fin 2048) : View.ld (Val := Elt Ideal) (e' := .f32) x6 r0_6 (ix4 0 0 0 l) = N.md ((R + r.val) / 4096) (4096 + l.val) :=
  eq_read₂ N.md (h.gt (r0_6.idx (ix4 0 0 0 l))) (show R / 4096 = (R + r.val) / 4096 by have := h.h; omega) (show 4096 + (0 + 1 * l.val) = 4096 + l.val by omega)

theorem mid_apply (r : Fin 512) (l : Fin 2048) :
    k0_pay1 (F := Ideal) (k0_pay5 x0 x1 x2 x3 x4 x5 x6 x7 x8 x9) (k0_pay6 x0 x1 x2 x3 x4 x5 x6 x7 x8 x9) (View.ld x6 r0_6) (ix2 r l) = N.mid (R + r.val) l.val := by
  have e0 : View.ld (Val := Elt Ideal) (e' := .f32) x0 r0_5 (ix2 r l) = N.x (R + r.val) l.val := eq_read₂ N.x (h.x (r0_5.idx (ix2 r l))) (show R + (0 + 1 * r.val) = R + r.val by omega) (show 0 + 1 * l.val = l.val by omega)
  unfold Mix.mid
  rw [← e0, ← gate_apply h, ← mixed_apply h]
  pointwise [k0_pay1, k0_pay6, k0_pay4]

theorem hid_apply (r : Fin 512) (l : Fin 2048) :
    k0_pay2 (F := Ideal) (k0_pay5 x0 x1 x2 x3 x4 x5 x6 x7 x8 x9) (k0_pay6 x0 x1 x2 x3 x4 x5 x6 x7 x8 x9) (View.ld x6 r0_6) (View.ld x7 r0_7) (View.ld x8 r0_6) (View.ld x9 r0_6) (ix2 r l) = N.hid (R + r.val) l.val := by
  have hR : (R + r.val) / 4096 = R / 4096 := by have := h.h; omega
  have e7 : View.ld (Val := Elt Ideal) (e' := .f32) x7 r0_7 (ix2 0 l) = N.g l.val := eq_read N.g (h.g (r0_7.idx (ix2 0 l))) (show 0 + 1 * l.val = l.val by omega)
  have e8 : View.ld (Val := Elt Ideal) (e' := .f32) x8 r0_6 (ix4 0 0 0 l) = N.md ((R + r.val) / 4096) (6144 + l.val) := eq_read₂ N.md (h.sh (r0_6.idx (ix4 0 0 0 l))) hR.symm (show 6144 + (0 + 1 * l.val) = 6144 + l.val by omega)
  have e9 : View.ld (Val := Elt Ideal) (e' := .f32) x9 r0_6 (ix4 0 0 0 l) = N.md ((R + r.val) / 4096) (8192 + l.val) := eq_read₂ N.md (h.sc (r0_6.idx (ix4 0 0 0 l))) hR.symm (show 8192 + (0 + 1 * l.val) = 8192 + l.val by omega)
  unfold Mix.hid modulated
  simp only [← e7, ← e8, ← e9, ← mid_apply h]
  pointwise [k0_pay2]

theorem out10_apply (y : S512x2048.Idx) : out0_10 (F := Ideal) x0 x1 x2 x3 x4 x5 x6 x7 x8 x9 y = N.mid (R + (y 0).val) (y 1).val := by
  unfold out0_10
  refine View.canon_apply_of_pieces (Val := Elt Ideal) ((fun y => N.mid (R + (y 0).val) (y 1).val) : S512x2048.Idx → Elt Ideal .f32) _ ?_ y (cover0_10 _ y)
  intro p hp z
  simp only [List.mem_cons, List.not_mem_nil, or_false] at hp
  subst hp
  obtain ⟨r, j, rfl⟩ : ∃ (r : Fin 512) (j : Fin 2048), z = ix2 r j := ⟨z 0, z 1, eq_ix2 z⟩
  refine (mid_apply h r j).trans ?_
  show _ = N.mid (R + (0 + 1 * r.val)) (0 + 1 * j.val)
  rw [Nat.zero_add, Nat.zero_add, Nat.one_mul, Nat.one_mul]

theorem out11_apply (y : S512x2048.Idx) : out0_11 (F := Ideal) x0 x1 x2 x3 x4 x5 x6 x7 x8 x9 y = N.hid (R + (y 0).val) (y 1).val := by
  unfold out0_11
  refine View.canon_apply_of_pieces (Val := Elt Ideal) ((fun y => N.hid (R + (y 0).val) (y 1).val) : S512x2048.Idx → Elt Ideal .bf16) _ ?_ y (cover0_11 _ y)
  intro p hp z
  simp only [List.mem_cons, List.not_mem_nil, or_false] at hp
  subst hp
  obtain ⟨r, j, rfl⟩ : ∃ (r : Fin 512) (j : Fin 2048), z = ix2 r j := ⟨z 0, z 1, eq_ix2 z⟩
  refine (hid_apply h r j).trans ?_
  show _ = N.hid (R + (0 + 1 * r.val)) (0 + 1 * j.val)
  rw [Nat.zero_add, Nat.zero_add, Nat.one_mul, Nat.one_mul]

end

end Cert.Proof.MixOutIdeal
-- ==== Proof.MixOutValue.lean ====
/-
  The mixing's value: what each block the pipeline fetches holds of the arguments, and what the kernel leaves in its
  results.
-/
module

public import proofs.«01_k».proof.Proof.MixOutChunks
public import proofs.«01_k».proof.Proof.Gen.MixOutIdeal.Points
public import Idealize.ShloMosaic.Lib.Pipeline.ValueKit
public import Idealize.ShloMosaic.Lib.Claim

@[expose] public section

set_option maxRecDepth 16384

noncomputable section

namespace Cert.Proof.MixOutIdeal

open Cert.MixOutIdeal Cert.MixOutIdeal.Gen
open Idealize.ShloMosaic Idealize.ShloMosaic.TcCoe Idealize.SL.Sem

/-- The index maps in closed form. -/
theorem idx : ∀ t : Fin cfg0.N, win0_0.index t = ![t.val, 0] ∧ win0_1.index t = ![t.val, 0] ∧ win0_2.index t = ![t.val, 0] ∧ win0_3.index t = ![0, 0] ∧ win0_4.index t = ![0, 0] ∧ win0_5.index t = ![0, 0]
    ∧ win0_6.index t = ![t.val / 8, 2, 0, 0] ∧ win0_7.index t = ![0, 0] ∧ win0_8.index t = ![t.val / 8, 3, 0, 0] ∧ win0_9.index t = ![t.val / 8, 4, 0, 0]
    ∧ win0_10.index t = ![t.val, 0] ∧ win0_11.index t = ![t.val, 0] :=
  (by decide +kernel : ∀ t : Fin grid0.N, _)

variable (m : (ℓ : Loc nD τ sig) → Buf (Elt Ideal) ℓ) (c : Dev nD)

/-- The arguments read at numbers. -/
abbrev args : Mix := mixing (m ((c : Thread nD τ).loc main_arg0)) (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6)) (m ((c : Thread nD τ).loc main_arg7))

theorem blk0 (t : Fin cfg0.N) (y : S512x2048.Idx) : iblk m c 0 t y = (args m c).x (512 * t.val + (y 0).val) (y 1).val := by
  unfold iblk
  rw [show V m c (Pipeline.arrRef spec0 0) = V m c main_v0 from rfl]
  entry_read
  refine castRow_apply (m ((c : Thread nD τ).loc main_arg0)) shapeCasts_S2x4096x2048_S8192x2048 _ ?_ ?_
  · blk_simp [idx t]
    simp
    omega
  · blk_simp [idx t]

theorem blk1 (t : Fin cfg0.N) (y : S512x1024.Idx) : iblk m c 1 t y = (args m c).a (512 * t.val + (y 0).val) (y 1).val := by
  unfold iblk
  refine eq_at2 (m ((c : Thread nD τ).loc main_arg1)) _ ?_ ?_
  · blk_simp [idx t]
    simp
    omega
  · blk_simp [idx t]

theorem blk2 (t : Fin cfg0.N) (y : S512x1024.Idx) : iblk m c 2 t y = (args m c).y (512 * t.val + (y 0).val) (y 1).val := by
  unfold iblk
  refine eq_at2 (m ((c : Thread nD τ).loc main_arg2)) _ ?_ ?_
  · blk_simp [idx t]
    simp
    omega
  · blk_simp [idx t]

theorem blk3 (t : Fin cfg0.N) (y : S1024x1024.Idx) : iblk m c 3 t y = (args m c).wg (y 0).val (y 1).val := by
  unfold iblk
  rw [show V m c (Pipeline.arrRef spec0 3) = V m c main_v2 from rfl]
  entry_read
  refine cast3_apply (m ((c : Thread nD τ).loc main_arg3)) shapeCasts_S1x1024x1024_S1024x1024 _ ?_ ?_
  · blk_simp [idx t]
  · blk_simp [idx t]

theorem blk4 (t : Fin cfg0.N) (y : S1x1024.Idx) : iblk m c 4 t y = (args m c).bg (y 1).val := by
  unfold iblk
  rw [show V m c (Pipeline.arrRef spec0 4) = V m c main_v8 from rfl]
  entry_read
  refine castFlat_apply (m ((c : Thread nD τ).loc main_arg4)) shapeCasts_S1x1024_S1024 shapeCasts_S1024_S1x1024 _ ?_
  blk_simp [idx t]

theorem blk5 (t : Fin cfg0.N) (y : S2048x2048.Idx) : iblk m c 5 t y = (args m c).wo (y 0).val (y 1).val := by
  unfold iblk
  rw [show V m c (Pipeline.arrRef spec0 5) = V m c main_v5 from rfl]
  entry_read
  refine cast3_apply (m ((c : Thread nD τ).loc main_arg5)) shapeCasts_S1x2048x2048_S2048x2048 _ ?_ ?_
  · blk_simp [idx t]
  · blk_simp [idx t]

theorem blk6 (t : Fin cfg0.N) (y : S1x1x1x2048.Idx) : iblk m c 6 t y = (args m c).md (t.val / 8) (4096 + (y 3).val) := by
  unfold iblk
  rw [show V m c (Pipeline.arrRef spec0 6) = V m c main_v6 from rfl]
  entry_read
  refine castPart_apply (m ((c : Thread nD τ).loc main_arg6)) shapeCasts_S2x12288_S2x6x1x2048 _ (b := t.val / 8) (p := 2) (l := (y 3).val) ?_ ?_ ?_
  · blk_simp [idx t]
  · blk_simp [idx t]
  · blk_simp [idx t]

theorem blk7 (t : Fin cfg0.N) (y : S1x2048.Idx) : iblk m c 7 t y = (args m c).g (y 1).val := by
  unfold iblk
  rw [show V m c (Pipeline.arrRef spec0 7) = V m c main_v9 from rfl]
  entry_read
  refine castFlat_apply (m ((c : Thread nD τ).loc main_arg7)) shapeCasts_S1x2048_S2048 shapeCasts_S2048_S1x2048 _ ?_
  blk_simp [idx t]

theorem blk8 (t : Fin cfg0.N) (y : S1x1x1x2048.Idx) : iblk m c 8 t y = (args m c).md (t.val / 8) (6144 + (y 3).val) := by
  unfold iblk
  rw [show V m c (Pipeline.arrRef spec0 8) = V m c main_v6 from rfl]
  entry_read
  refine castPart_apply (m ((c : Thread nD τ).loc main_arg6)) shapeCasts_S2x12288_S2x6x1x2048 _ (b := t.val / 8) (p := 3) (l := (y 3).val) ?_ ?_ ?_
  · blk_simp [idx t]
  · blk_simp [idx t]
  · blk_simp [idx t]

theorem blk9 (t : Fin cfg0.N) (y : S1x1x1x2048.Idx) : iblk m c 9 t y = (args m c).md (t.val / 8) (8192 + (y 3).val) := by
  unfold iblk
  rw [show V m c (Pipeline.arrRef spec0 9) = V m c main_v6 from rfl]
  entry_read
  refine castPart_apply (m ((c : Thread nD τ).loc main_arg6)) shapeCasts_S2x12288_S2x6x1x2048 _ (b := t.val / 8) (p := 4) (l := (y 3).val) ?_ ?_ ?_
  · blk_simp [idx t]
  · blk_simp [idx t]
  · blk_simp [idx t]

theorem reads (t : Fin cfg0.N) : Reads (args m c) (512 * t.val) (iblk m c 0 t) (iblk m c 1 t) (iblk m c 2 t) (iblk m c 3 t) (iblk m c 4 t) (iblk m c 5 t) (iblk m c 6 t) (iblk m c 7 t)
    (iblk m c 8 t) (iblk m c 9 t) where
  h := by omega
  x := blk0 m c t
  a := blk1 m c t
  y := blk2 m c t
  wg := blk3 m c t
  bg := blk4 m c t
  wo := blk5 m c t
  gt := fun y => (blk6 m c t y).trans (congrArg (fun b => (args m c).md b (4096 + (y 3).val)) (by omega))
  g := blk7 m c t
  sh := fun y => (blk8 m c t y).trans (congrArg (fun b => (args m c).md b (6144 + (y 3).val)) (by omega))
  sc := fun y => (blk9 m c t y).trans (congrArg (fun b => (args m c).md b (8192 + (y 3).val)) (by omega))

/-- What the kernel leaves in its results. -/
def result0 : FVec Ideal S8192x2048 .f32 := fun i => (args m c).mid (i 0).val (i 1).val

def result1 : FVec Ideal S8192x2048 .bf16 := fun i => (args m c).hid (i 0).val (i 1).val

theorem end10 : (dats (F := Ideal) m 0 c).arrAt 10 cfg0.N = result0 m c := by
  refine (dats m 0 c).arrAt_eq_of_covers 10 (result0 m c) (by decide +kernel) (fun t hf y => ?_)
  rw [after0_10]
  blk_simp
  refine (out10_apply (reads m c t) _).trans ?_
  unfold result0
  refine congrArg₂ _ ?_ ?_
  · blk_simp [idx t]
    simp
    omega
  · blk_simp [idx t]

theorem end11 : (dats (F := Ideal) m 0 c).arrAt 11 cfg0.N = result1 m c := by
  refine (dats m 0 c).arrAt_eq_of_covers 11 (result1 m c) (by decide +kernel) (fun t hf y => ?_)
  rw [after0_11]
  blk_simp
  refine (out11_apply (reads m c t) _).trans ?_
  unfold result1
  refine congrArg₂ _ ?_ ?_
  · blk_simp [idx t]
    simp
    omega
  · blk_simp [idx t]

theorem run (ρ : Dev nD → PrngReg) : θ_run defs (onTc (τ := τ) (main (F := Ideal))) ⟨m, fun _ => 0, ρ⟩ (fun r => ∀ c : Dev nD,
      r.2.mem ((c.tc : Thread nD τ).loc main_v10_0) = result0 m c
      ∧ r.2.mem ((c.tc : Thread nD τ).loc main_v10_1) = result1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run defs _ _).mono (fun r h c => ⟨((h.1 c).1 10).trans (end10 m c), ((h.1 c).1 11).trans (end11 m c), h.2 c⟩) (θ_run_and (run_main m ρ) (unchanged m ρ))

end Cert.Proof.MixOutIdeal
-- ==== Proof.MixOutReferenceValue.lean ====
/-
  What the mixing's reference computes: the mixing of its arguments.
-/
module

public import proofs.«01_k».proof.Proof.Mixing
public import proofs.«01_k».proof.Proof.Gen.MixOutReferenceIdeal.Read
public import Idealize.ShloMosaic.Lib.KernelVsHost

@[expose] public section

set_option maxRecDepth 16384
set_option maxHeartbeats 1600000

noncomputable section

namespace Cert.Proof.MixOutReferenceIdeal

open Cert.MixOutReferenceIdeal Cert.MixOutReferenceIdeal.Read
open Idealize.ShloMosaic

variable (x0 : FVec Ideal S2x4096x2048 .f32) (x1 : FVec Ideal S8192x1024 .bf16) (x2 : FVec Ideal S8192x1024 .f32) (x3 : FVec Ideal S1x1024x1024 .f32) (x4 : FVec Ideal S1x1024 .f32)
  (x5 : FVec Ideal S1x2048x2048 .f32) (x6 : FVec Ideal S2x12288 .f32) (x7 : FVec Ideal S1x2048 .f32)

theorem act_apply (i : S2x4096x1024.Idx) : val_main_v21 (F := Ideal) x2 i = KernelIdeal.gelu ((mixing x0 x1 x2 x3 x4 x5 x6 x7).y ((i 0).val * 4096 + (i 1).val) (i 2).val) := by
  have h2 : (i 2).val < 1024 := (i 2).isLt
  have e : val_main_v8 (F := Ideal) x2 i = (mixing x0 x1 x2 x3 x4 x5 x6 x7).y ((i 0).val * 4096 + (i 1).val) (i 2).val := by
    rw [val_main_v8_apply]
    refine eq_at2 x2 _ ?_ ?_
    · dsimp only [idx_main_v8]
      omega
    · dsimp only [idx_main_v8]
      omega
  rw [val_main_v21_apply, val_main_v20_apply, val_main_v19_apply, val_main_cst_2_apply, val_main_v18_apply, val_main_v17_apply, val_main_cst_1_apply, val_main_v16_apply, val_main_v15_apply,
    val_main_v14_apply, val_main_cst_0_apply, val_main_v13_apply, val_main_v12_apply, val_main_v11_apply, val_main_cst_apply, val_main_v10_apply, val_main_v9_apply, e]
  generalize (mixing x0 x1 x2 x3 x4 x5 x6 x7).y _ _ = u
  unfold KernelIdeal.gelu
  rw [← mul_assoc u u u]
  show u * (_ * (Ideal.ofBits FTy.f32 0x3F800000#32 + _)) = _
  rw [Ideal.ofBits_one_f32]
  rfl

theorem glu_apply (i : S2x4096x1024.Idx) : val_main_v34 (F := Ideal) x2 x3 x4 i = (mixing x0 x1 x2 x3 x4 x5 x6 x7).glu ((i 0).val * 4096 + (i 1).val) (i 2).val := by
  have h2 : (i 2).val < 1024 := (i 2).isLt
  have e : val_main_v27 (F := Ideal) x2 x3 x4 i = (∑ k : Fin 1024, KernelIdeal.gelu ((mixing x0 x1 x2 x3 x4 x5 x6 x7).y ((i 0).val * 4096 + (i 1).val) k.val) * (mixing x0 x1 x2 x3 x4 x5 x6 x7).wg k.val (i 2).val)
      + (mixing x0 x1 x2 x3 x4 x5 x6 x7).bg (i 2).val := by
    rw [val_main_v27_apply, val_main_v26_apply, val_main_v25_apply, val_main_v24_apply, val_main_v23_apply]
    refine congrArg₂ (· + ·) (Finset.sum_congr rfl fun k _ => ?_) ?_
    · rw [act_apply x0 x1 x2 x3 x4 x5 x6 x7, val_main_v22_apply]
      refine congrArg₂ (· * ·) rfl (eq_at3 x3 _ ?_ ?_)
      · dsimp only [idx_main_v22, ridx_main_v23]
        omega
      · dsimp only [idx_main_v22, ridx_main_v23]
        omega
    · refine eq_at2 x4 _ rfl ?_
      dsimp only [idx_main_v24, idx_main_v25, idx_main_v26]
      omega
  rw [val_main_v34_apply, val_main_v33_apply, val_main_v32_apply, val_main_cst_4_apply, val_main_v31_apply, val_main_v30_apply, val_main_cst_3_apply, val_main_v29_apply, val_main_v28_apply, e,
    act_apply x0 x1 x2 x3 x4 x5 x6 x7]
  unfold Mix.glu Ideal.logistic
  refine congrArg₂ (· * ·) rfl ?_
  show Ideal.div (Ideal.ofBits FTy.f32 0x3F800000#32) (Ideal.ofBits FTy.f32 0x3F800000#32 + _) = _
  rw [Ideal.ofBits_one_f32]
  rfl

theorem left_apply (i : S2x4096x2048.Idx) (h : (i 2).val < 1024) : val_main_v35 (F := Ideal) x1 x2 x3 x4 i = (mixing x0 x1 x2 x3 x4 x5 x6 x7).a ((i 0).val * 4096 + (i 1).val) (i 2).val := by
  unfold val_main_v35
  refine (concatenate_apply_piece 2 _ _ i 0 (by show 0 < 2; decide) S2x4096x1024 (val_main_v7 (F := Ideal) x1) rfl rfl 0 rfl (ix3 (i 0) (i 1) ⟨(i 2).val, h⟩) ?_ (Nat.zero_add _)).trans ?_
  · intro b hb
    match b with
    | ⟨0, _⟩ => rfl
    | ⟨1, _⟩ => rfl
    | ⟨2, _⟩ => exact absurd rfl hb
  · rw [val_main_v7_apply, val_main_v6_apply]
    refine eq_at2 x1 _ ?_ ?_
    · show (((i 0).val * 4096 + (i 1).val) * 1024 + (i 2).val) / 1024 = _
      omega
    · show (((i 0).val * 4096 + (i 1).val) * 1024 + (i 2).val) % 1024 = _
      omega

theorem right_apply (i : S2x4096x2048.Idx) {j : ℕ} (h : (i 2).val = 1024 + j) : val_main_v35 (F := Ideal) x1 x2 x3 x4 i = (mixing x0 x1 x2 x3 x4 x5 x6 x7).glu ((i 0).val * 4096 + (i 1).val) j := by
  have h2 : (i 2).val < 2048 := (i 2).isLt
  unfold val_main_v35
  refine (concatenate_apply_piece 2 _ _ i 1 (by show 1 < 2; decide) S2x4096x1024 (val_main_v34 (F := Ideal) x2 x3 x4) rfl rfl 1024 rfl (ix3 (i 0) (i 1) ⟨j, by omega⟩) ?_ (by show 1024 + j = (i 2).val; omega)).trans ?_
  · intro b hb
    match b with
    | ⟨0, _⟩ => rfl
    | ⟨1, _⟩ => rfl
    | ⟨2, _⟩ => exact absurd rfl hb
  · exact glu_apply x0 x1 x2 x3 x4 x5 x6 x7 _

theorem mixed_apply (i : S2x4096x2048.Idx) : val_main_v37 (F := Ideal) x1 x2 x3 x4 x5 i = (mixing x0 x1 x2 x3 x4 x5 x6 x7).mixed ((i 0).val * 4096 + (i 1).val) (i 2).val := by
  have h2 : (i 2).val < 2048 := (i 2).isLt
  have e : ∀ k : Fin 2048, val_main_v36 (F := Ideal) x5 (ridx_main_v37 i k) = (mixing x0 x1 x2 x3 x4 x5 x6 x7).wo k.val (i 2).val := fun k => by
    have hk := k.isLt
    rw [val_main_v36_apply]
    refine eq_at3 x5 _ ?_ ?_
    · dsimp only [idx_main_v36, ridx_main_v37]
      omega
    · dsimp only [idx_main_v36, ridx_main_v37]
      omega
  rw [val_main_v37_apply]
  simp only [e]
  unfold Mix.mixed
  refine (Fin.sum_univ_add (a := 1024) (b := 1024) _).trans ?_
  refine congrArg₂ (· + ·) (Finset.sum_congr rfl fun k _ => congrArg₂ (· * ·) ?_ rfl) (Finset.sum_congr rfl fun k _ => congrArg₂ (· * ·) ?_ rfl)
  · exact left_apply x0 x1 x2 x3 x4 x5 x6 x7 _ k.isLt
  · exact right_apply x0 x1 x2 x3 x4 x5 x6 x7 _ rfl

theorem mid_apply (i : S2x4096x2048.Idx) : val_main_v41 (F := Ideal) x0 x1 x2 x3 x4 x5 x6 i = (mixing x0 x1 x2 x3 x4 x5 x6 x7).mid ((i 0).val * 4096 + (i 1).val) (i 2).val := by
  have h1 : (i 1).val < 4096 := (i 1).isLt
  have hb : ((i 0).val * 4096 + (i 1).val) / 4096 = (i 0).val := by omega
  rw [val_main_v41_apply, val_main_v40_apply, val_main_v39_apply, val_main_v38_apply, val_main_v2_apply, mixed_apply x0 x1 x2 x3 x4 x5 x6 x7]
  unfold Mix.mid
  rw [hb]
  refine congrArg₂ (· + ·) (eq_atRow x0 _ rfl rfl) (congrArg₂ (· * ·) ?_ rfl)
  exact eq_at2 x6 _ rfl rfl

theorem hid_apply (i : S2x4096x2048.Idx) : val_main_v63 (F := Ideal) x0 x1 x2 x3 x4 x5 x6 x7 i = (mixing x0 x1 x2 x3 x4 x5 x6 x7).hid ((i 0).val * 4096 + (i 1).val) (i 2).val := by
  have h1 : (i 1).val < 4096 := (i 1).isLt
  have h2 : (i 2).val < 2048 := (i 2).isLt
  have hb : ((i 0).val * 4096 + (i 1).val) / 4096 = (i 0).val := by omega
  rw [val_main_v63_apply, val_main_v62_apply, val_main_v61_apply, val_main_v60_apply, val_main_v59_apply, val_main_v58_apply, val_main_v57_apply, val_main_cst_8_apply, val_main_v56_apply,
    val_main_v55_apply, val_main_v54_apply, val_main_v53_apply, val_main_v52_apply, val_main_v51_apply, val_main_v50_apply, val_main_v49_apply, val_main_v48_apply, val_main_cst_7_apply,
    val_main_v47_apply, val_main_v46_apply, val_main_cst_6_apply, val_main_v45_apply, val_main_v44_apply, val_main_v42_apply, val_main_v4_apply, val_main_v3_apply,
    mid_apply x0 x1 x2 x3 x4 x5 x6 x7]
  unfold Mix.hid modulated
  rw [hb]
  have hx : ∀ k : Fin 2048, val_main_v43 (F := Ideal) x0 x1 x2 x3 x4 x5 x6 (idx_main_v44 (idx_main_v45 (idx_main_v51 i)) k)
      = (mixing x0 x1 x2 x3 x4 x5 x6 x7).mid ((i 0).val * 4096 + (i 1).val) k.val * (mixing x0 x1 x2 x3 x4 x5 x6 x7).mid ((i 0).val * 4096 + (i 1).val) k.val := fun k => by
    rw [val_main_v43_apply, mid_apply x0 x1 x2 x3 x4 x5 x6 x7]
    rfl
  simp only [hx]
  refine congrArg₂ (· + ·) (congrArg₂ (· * ·) (congrArg₂ (· * ·) (congrArg₂ (· * ·) rfl (congrArg Ideal.rsqrt (congrArg (· + _) (congrArg (Ideal.div · _) ?_)))) ?_) (congrArg₂ (· + ·) ?_ ?_)) ?_
  · exact zero_add_eq rfl
  · refine eq_at2 x7 _ rfl ?_
    dsimp only [idx_main_v42, idx_main_v53, idx_main_v54]
    omega
  · exact Ideal.ofBits_one_f32
  · exact eq_at2 x6 _ rfl rfl
  · exact eq_at2 x6 _ rfl rfl

theorem out0_apply (i : S8192x2048.Idx) : val_main_v64 (F := Ideal) x0 x1 x2 x3 x4 x5 x6 i = (mixing x0 x1 x2 x3 x4 x5 x6 x7).mid (i 0).val (i 1).val := by
  have h0 : (i 0).val < 8192 := (i 0).isLt
  have h1 : (i 1).val < 2048 := (i 1).isLt
  rw [val_main_v64_apply, mid_apply x0 x1 x2 x3 x4 x5 x6 x7]
  refine congrArg₂ _ ?_ ?_
  · dsimp only [idx_main_v64]
    omega
  · dsimp only [idx_main_v64]
    omega

theorem out1_apply (i : S8192x2048.Idx) : val_main_v66 (F := Ideal) x0 x1 x2 x3 x4 x5 x6 x7 i = (mixing x0 x1 x2 x3 x4 x5 x6 x7).hid (i 0).val (i 1).val := by
  have h0 : (i 0).val < 8192 := (i 0).isLt
  have h1 : (i 1).val < 2048 := (i 1).isLt
  rw [val_main_v66_apply, val_main_v65_apply, hid_apply x0 x1 x2 x3 x4 x5 x6 x7]
  refine congrArg₂ (mixing x0 x1 x2 x3 x4 x5 x6 x7).hid ?_ ?_
  · dsimp only [idx_main_v65]
    omega
  · dsimp only [idx_main_v65]
    omega

end Cert.Proof.MixOutReferenceIdeal
-- ==== Proof.Modulation.lean ====
/-
  The modulation as a function of row and column numbers.
-/
module

public import proofs.«01_k».proof.Proof.Network

@[expose] public section

noncomputable section

namespace Cert.Proof

open Idealize.ShloMosaic

/-- The arguments read at numbers: the conditioning vectors, the weight and the bias. -/
structure Ada where
  c : ℕ → ℕ → EReal
  w : ℕ → ℕ → EReal
  b : ℕ → EReal

/-- The modulation: the conditioning vector, activated by the sigmoid linear unit, projected, with the bias. -/
def Ada.md (N : Ada) (s l : ℕ) : EReal := (∑ k : Fin 2048, N.c s k.val * Ideal.logistic (N.c s k.val) * N.w k.val l) + N.b l

/-- The arguments read at numbers. -/
def ada (x0 : (⟨2, ![2, 2048]⟩ : Shape).Idx → EReal) (x1 : (⟨3, ![1, 2048, 12288]⟩ : Shape).Idx → EReal) (x2 : (⟨2, ![1, 12288]⟩ : Shape).Idx → EReal) : Ada where
  c := at2 x0
  w := at3 x1
  b := at2 x2 0

end Cert.Proof
-- ==== Proof.AdaLnValue.lean ====
/-
  The modulation's value: what the block's step computes, what each block the pipeline fetches holds of the arguments, and
  what the kernel leaves in its result.
-/
module

public import proofs.«01_k».proof.Proof.Gen.AdaLnIdeal.Frame
public import proofs.«01_k».proof.Proof.Gen.AdaLnIdeal.Points
public import proofs.«01_k».proof.Proof.Projection
public import proofs.«01_k».proof.Proof.Modulation
public import Idealize.ShloMosaic.Lib.Pointwise
public import Idealize.ShloMosaic.Lib.Pipeline.ValueKit
public import Idealize.ShloMosaic.Lib.Claim

@[expose] public section

set_option maxRecDepth 16384

noncomputable section

namespace Cert.Proof.AdaLnIdeal

open Cert.AdaLnIdeal Cert.AdaLnIdeal.Gen
open Idealize.ShloMosaic Idealize.ShloMosaic.TcCoe Idealize.SL.Sem

/-- The blocks of 1024 columns from column `C` on hold the arguments. -/
structure Reads (N : Ada) (C : ℕ) (x0 : FVec Ideal S2x2048 .f32) (x1 : FVec Ideal S2048x1024 .f32) (x2 : FVec Ideal S1x1024 .f32) : Prop where
  c : ∀ y, x0 y = N.c (y 0).val (y 1).val
  w : ∀ y, x1 y = N.w (y 0).val (C + (y 1).val)
  b : ∀ y, x2 y = N.b (C + (y 1).val)

section

variable {N : Ada} {C : ℕ} {x0 : FVec Ideal S2x2048 .f32} {x1 : FVec Ideal S2048x1024 .f32} {x2 : FVec Ideal S1x1024 .f32} (h : Reads N C x0 x1 x2)
include h

theorem md_apply (r : Fin 2) (l : Fin 1024) : k0_pay1 (F := Ideal) (View.ld x0 r0_0) (View.ld x1 r0_1) (View.ld x2 r0_2) (ix2 r l) = N.md r.val (C + l.val) := by
  have e0 : ∀ k : Fin 2048, View.ld (Val := Elt Ideal) (e' := .f32) x0 r0_0 (ix2 r k) = N.c r.val k.val := fun k => eq_read₂ N.c (h.c (r0_0.idx (ix2 r k))) (show 0 + 1 * r.val = r.val by omega) (show 0 + 1 * k.val = k.val by omega)
  have e1 : ∀ k : Fin 2048, View.ld (Val := Elt Ideal) (e' := .f32) x1 r0_1 (ix2 k l) = N.w k.val (C + l.val) := fun k => eq_read₂ N.w (h.w (r0_1.idx (ix2 k l))) (show 0 + 1 * k.val = k.val by omega) (show C + (0 + 1 * l.val) = C + l.val by omega)
  have e2 : View.ld (Val := Elt Ideal) (e' := .f32) x2 r0_2 (ix2 0 l) = N.b (C + l.val) := eq_read N.b (h.b (r0_2.idx (ix2 0 l))) (show C + (0 + 1 * l.val) = C + l.val by omega)
  unfold Ada.md
  simp only [← e0, ← e1, ← e2]
  pointwise [k0_pay1]

theorem out3_apply (y : S2x1024.Idx) : out0_3 (F := Ideal) x0 x1 x2 y = N.md (y 0).val (C + (y 1).val) := by
  unfold out0_3
  refine View.canon_apply_of_pieces (Val := Elt Ideal) ((fun y => N.md (y 0).val (C + (y 1).val)) : S2x1024.Idx → Elt Ideal .f32) _ ?_ y (cover0_3 _ y)
  intro p hp z
  simp only [List.mem_cons, List.not_mem_nil, or_false] at hp
  subst hp
  obtain ⟨r, j, rfl⟩ : ∃ (r : Fin 2) (j : Fin 1024), z = ix2 r j := ⟨z 0, z 1, eq_ix2 z⟩
  refine (md_apply h r j).trans ?_
  show _ = N.md (0 + 1 * r.val) (C + (0 + 1 * j.val))
  rw [Nat.zero_add, Nat.zero_add, Nat.one_mul, Nat.one_mul]

end

/-- The index maps in closed form. -/
theorem idx : ∀ t : Fin cfg0.N, win0_0.index t = ![0, 0] ∧ win0_1.index t = ![0, t.val] ∧ win0_2.index t = ![0, t.val] ∧ win0_3.index t = ![0, t.val] :=
  (by decide +kernel : ∀ t : Fin grid0.N, _)

variable (m : (ℓ : Loc nD τ sig) → Buf (Elt Ideal) ℓ) (c : Dev nD)

/-- The arguments read at numbers. -/
abbrev args : Ada := ada (m ((c : Thread nD τ).loc main_arg0)) (m ((c : Thread nD τ).loc main_arg1)) (m ((c : Thread nD τ).loc main_arg2))

theorem blk0 (t : Fin cfg0.N) (y : S2x2048.Idx) : iblk m c 0 t y = (args m c).c (y 0).val (y 1).val := by
  unfold iblk
  refine eq_at2 (m ((c : Thread nD τ).loc main_arg0)) _ ?_ ?_
  · blk_simp [idx t]
  · blk_simp [idx t]

theorem blk1 (t : Fin cfg0.N) (y : S2048x1024.Idx) : iblk m c 1 t y = (args m c).w (y 0).val (1024 * t.val + (y 1).val) := by
  unfold iblk
  rw [show V m c (Pipeline.arrRef spec0 1) = V m c main_v0 from rfl]
  entry_read
  refine cast3_apply (m ((c : Thread nD τ).loc main_arg1)) shapeCasts_S1x2048x12288_S2048x12288 _ ?_ ?_
  · blk_simp [idx t]
  · blk_simp [idx t]
    simp
    omega

theorem blk2 (t : Fin cfg0.N) (y : S1x1024.Idx) : iblk m c 2 t y = (args m c).b (1024 * t.val + (y 1).val) := by
  unfold iblk
  rw [show V m c (Pipeline.arrRef spec0 2) = V m c main_v2 from rfl]
  entry_read
  refine castFlat_apply (m ((c : Thread nD τ).loc main_arg2)) shapeCasts_S1x12288_S12288 shapeCasts_S12288_S1x12288 _ ?_
  blk_simp [idx t]
  simp
  omega

theorem reads (t : Fin cfg0.N) : Reads (args m c) (1024 * t.val) (iblk m c 0 t) (iblk m c 1 t) (iblk m c 2 t) where
  c := blk0 m c t
  w := blk1 m c t
  b := blk2 m c t

/-- What the kernel leaves in its result. -/
def result : FVec Ideal S2x12288 .f32 := fun i => (args m c).md (i 0).val (i 1).val

theorem end3 : (dats (F := Ideal) m 0 c).arrAt 3 cfg0.N = result m c := by
  refine (dats m 0 c).arrAt_eq_of_covers 3 (result m c) (by decide +kernel) (fun t hf y => ?_)
  rw [after0_3]
  blk_simp
  refine (out3_apply (reads m c t) _).trans ?_
  unfold result
  refine congrArg₂ _ ?_ ?_
  · blk_simp [idx t]
  · blk_simp [idx t]
    simp
    omega

theorem run (ρ : Dev nD → PrngReg) : θ_run defs (onTc (τ := τ) (main (F := Ideal))) ⟨m, fun _ => 0, ρ⟩ (fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ⟨((h.1 c).1 3).trans (end3 m c), h.2 c⟩) (θ_run_and (run_main m ρ) (unchanged m ρ))

end Cert.Proof.AdaLnIdeal
-- ==== Proof.AdaLnReferenceValue.lean ====
/-
  What the modulation's reference computes: the modulation of its arguments.
-/
module

public import proofs.«01_k».proof.Proof.Modulation
public import proofs.«01_k».proof.Proof.Gen.AdaLnReferenceIdeal.Read
public import Idealize.ShloMosaic.Lib.KernelVsHost

@[expose] public section

set_option maxRecDepth 16384

noncomputable section

namespace Cert.Proof.AdaLnReferenceIdeal

open Cert.AdaLnReferenceIdeal Cert.AdaLnReferenceIdeal.Read
open Idealize.ShloMosaic

variable (x0 : FVec Ideal S2x2048 .f32) (x1 : FVec Ideal S1x2048x12288 .f32) (x2 : FVec Ideal S1x12288 .f32)

theorem act_apply (i : S2x2048.Idx) : val_main_v0 (F := Ideal) x0 i = (ada x0 x1 x2).c (i 0).val (i 1).val * Ideal.logistic ((ada x0 x1 x2).c (i 0).val (i 1).val) := by
  have e : x0 i = (ada x0 x1 x2).c (i 0).val (i 1).val := eq_at2 x0 i rfl rfl
  rw [val_main_v0_apply, val_main_call0_v5_apply, val_main_call0_v4_apply, val_main_call0_cst_0_apply, val_main_call0_v3_apply, val_main_call0_v2_apply, val_main_call0_cst_apply,
    val_main_call0_v1_apply, val_main_call0_v0_apply, e]
  unfold Ideal.logistic
  refine congrArg₂ (· * ·) rfl ?_
  show Ideal.div (Ideal.ofBits FTy.f32 0x3F800000#32) (Ideal.ofBits FTy.f32 0x3F800000#32 + _) = _
  rw [Ideal.ofBits_one_f32]
  rfl

theorem out_apply (i : S2x12288.Idx) : val_main_v6 (F := Ideal) x0 x1 x2 i = (ada x0 x1 x2).md (i 0).val (i 1).val := by
  have h1 : (i 1).val < 12288 := (i 1).isLt
  rw [val_main_v6_apply, val_main_v5_apply, val_main_v4_apply, val_main_v3_apply, val_main_v2_apply]
  unfold Ada.md
  refine congrArg₂ (· + ·) (Finset.sum_congr rfl fun k _ => ?_) ?_
  · have hk := k.isLt
    rw [act_apply x0 x1 x2, val_main_v1_apply]
    refine congrArg₂ (· * ·) rfl (eq_at3 x1 _ ?_ ?_)
    · dsimp only [idx_main_v1, ridx_main_v2]
      omega
    · dsimp only [idx_main_v1, ridx_main_v2]
      omega
  · refine eq_at2 x2 _ rfl ?_
    dsimp only [idx_main_v3, idx_main_v4, idx_main_v5]
    omega

end Cert.Proof.AdaLnReferenceIdeal
-- ==== Proof.lean ====
/- The claims of `Cert.Claim`: the frames, the idealization, and the kernel's result against the reference's. -/
module

public import proofs.«01_k».proof.Defs
public import proofs.«01_k».proof.Proof.KernelFrame
public import proofs.«01_k».proof.Proof.KernelIdealFrame
public import proofs.«01_k».proof.Proof.KernelValue
public import proofs.«01_k».proof.Proof.ReferenceValue
public import proofs.«01_k».proof.Proof.InProjValue
public import proofs.«01_k».proof.Proof.InProjReferenceValue
public import proofs.«01_k».proof.Proof.MixOutValue
public import proofs.«01_k».proof.Proof.MixOutReferenceValue
public import proofs.«01_k».proof.Proof.AdaLnValue
public import proofs.«01_k».proof.Proof.AdaLnReferenceValue
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.InProj.Frame
public import proofs.«01_k».proof.Proof.Gen.InProj.Points
public import proofs.«01_k».proof.Proof.Gen.InProjIdeal.Frame
public import proofs.«01_k».proof.Proof.Gen.InProjIdeal.Points
public import proofs.«01_k».proof.Proof.Gen.MixOut.Frame
public import proofs.«01_k».proof.Proof.Gen.MixOut.Points
public import proofs.«01_k».proof.Proof.Gen.MixOutIdeal.Frame
public import proofs.«01_k».proof.Proof.Gen.MixOutIdeal.Points
public import proofs.«01_k».proof.Proof.Gen.InProjReferenceIdeal
public import proofs.«01_k».proof.Proof.Gen.InProjReferenceIdeal.Run
public import proofs.«01_k».proof.Proof.Gen.InProjReferenceIdeal.Read
public import proofs.«01_k».proof.Proof.Gen.MixOutReferenceIdeal
public import proofs.«01_k».proof.Proof.Gen.MixOutReferenceIdeal.Run
public import proofs.«01_k».proof.Proof.Gen.MixOutReferenceIdeal.Read
public import proofs.«01_k».proof.Proof.Gen.AdaLn.Frame
public import proofs.«01_k».proof.Proof.Gen.AdaLn.Points
public import proofs.«01_k».proof.Proof.Gen.AdaLnIdeal.Frame
public import proofs.«01_k».proof.Proof.Gen.AdaLnIdeal.Points
public import proofs.«01_k».proof.Proof.Gen.AdaLnReferenceIdeal
public import proofs.«01_k».proof.Proof.Gen.AdaLnReferenceIdeal.Run
public import proofs.«01_k».proof.Proof.Gen.AdaLnReferenceIdeal.Read

@[expose] public section

open Idealize.ShloMosaic Idealize.SL.Sem

namespace Cert.Proof

/-- The reference runs and leaves its arguments; it declares no semaphore. -/
theorem frame_r : Cert.quiescent_ReferenceIdeal := by
  intro m ρ _
  exact (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- On the same arguments the kernel and the reference leave the same result. -/
theorem algebraic : Cert.algebraic_KernelIdeal_ReferenceIdeal := by
  intro m g m' g' _ hargs
  refine ⟨KernelIdeal.result m, KernelIdeal.run m g, (θ_run Cert.ReferenceIdeal.defs _ _).mono (fun r h c => ⟨(h c).1.trans ?_, (h c).2⟩)
    (Cert.ReferenceIdeal.Value.run (F := Ideal) m' g')⟩
  rw [Cert.ReferenceIdeal.Read.val_main_v60_eq]
  obtain ⟨e0, e1, e2, e3, e4, e5, e6⟩ := hargs c
  rw [e0, e1, e2, e3, e4, e5, e6]
  exact funext fun i => ReferenceIdeal.out_apply _ _ _ _ _ _ _ i

/-- The input projection's reference runs and leaves its arguments. -/
theorem frame_inProj_r : Cert.quiescent_InProjReferenceIdeal := by
  intro m ρ _
  exact (θ_run Cert.InProjReferenceIdeal.defs _ _).mono (fun r h => ⟨fun c => (h c).2.2,
      Idealize.ShloMosaic.sem_eq_zero_of_no_sems (by decide) r.2⟩)
    (Cert.InProjReferenceIdeal.Value.run (F := Ideal) m ρ)

/-- On the same arguments the input projection and its reference leave the same results. -/
theorem algebraic_inProj : Cert.algebraic_InProjIdeal_InProjReferenceIdeal := by
  intro m g m' g' _ hargs
  refine ⟨InProjIdeal.result0 m, InProjIdeal.result1 m, InProjIdeal.run m g, (θ_run Cert.InProjReferenceIdeal.defs _ _).mono
    (fun r h c => ⟨(h c).1.trans ?_, (h c).2.1.trans ?_, (h c).2.2⟩) (Cert.InProjReferenceIdeal.Value.run (F := Ideal) m' g')⟩
  · rw [Cert.InProjReferenceIdeal.Read.val_main_v70_eq]
    obtain ⟨e0, e1, e2, e3, e4, e5⟩ := hargs c
    rw [e0, e1, e2, e3, e4, e5]
    exact funext fun i => InProjReferenceIdeal.out0_apply _ _ _ _ _ _ i
  · rw [Cert.InProjReferenceIdeal.Read.val_main_v71_eq]
    obtain ⟨e0, e1, e2, e3, e4, e5⟩ := hargs c
    rw [e0, e1, e2, e3]
    exact funext fun i => (InProjReferenceIdeal.out1_apply _ _ _ _ (m ((c.tc : Thread Cert.InProjIdeal.nD Cert.InProjIdeal.τ).loc Cert.InProjIdeal.main_arg4)) (m ((c.tc : Thread Cert.InProjIdeal.nD Cert.InProjIdeal.τ).loc Cert.InProjIdeal.main_arg5)) i)

/-- The mixing's reference runs and leaves its arguments. -/
theorem frame_mixOut_r : Cert.quiescent_MixOutReferenceIdeal := by
  intro m ρ _
  exact (θ_run Cert.MixOutReferenceIdeal.defs _ _).mono (fun r h => ⟨fun c => (h c).2.2,
      Idealize.ShloMosaic.sem_eq_zero_of_no_sems (by decide) r.2⟩)
    (Cert.MixOutReferenceIdeal.Value.run (F := Ideal) m ρ)

/-- On the same arguments the mixing and its reference leave the same results. -/
theorem algebraic_mixOut : Cert.algebraic_MixOutIdeal_MixOutReferenceIdeal := by
  intro m g m' g' _ hargs
  refine ⟨MixOutIdeal.result0 m, MixOutIdeal.result1 m, MixOutIdeal.run m g, (θ_run Cert.MixOutReferenceIdeal.defs _ _).mono
    (fun r h c => ⟨(h c).1.trans ?_, (h c).2.1.trans ?_, (h c).2.2⟩) (Cert.MixOutReferenceIdeal.Value.run (F := Ideal) m' g')⟩
  · rw [Cert.MixOutReferenceIdeal.Read.val_main_v64_eq]
    obtain ⟨e0, e1, e2, e3, e4, e5, e6, e7⟩ := hargs c
    rw [e0, e1, e2, e3, e4, e5, e6]
    exact funext fun i => MixOutReferenceIdeal.out0_apply _ _ _ _ _ _ _ (m ((c.tc : Thread Cert.MixOutIdeal.nD Cert.MixOutIdeal.τ).loc Cert.MixOutIdeal.main_arg7)) i
  · rw [Cert.MixOutReferenceIdeal.Read.val_main_v66_eq]
    obtain ⟨e0, e1, e2, e3, e4, e5, e6, e7⟩ := hargs c
    rw [e0, e1, e2, e3, e4, e5, e6, e7]
    exact funext fun i => MixOutReferenceIdeal.out1_apply _ _ _ _ _ _ _ _ i

/-- The modulation's reference runs and leaves its arguments. -/
theorem frame_adaLn_r : Cert.quiescent_AdaLnReferenceIdeal := by
  intro m ρ _
  exact (θ_run Cert.AdaLnReferenceIdeal.defs _ _).mono (fun r h => ⟨fun c => (h c).2,
      Idealize.ShloMosaic.sem_eq_zero_of_no_sems (by decide) r.2⟩)
    (Cert.AdaLnReferenceIdeal.Value.run (F := Ideal) m ρ)

/-- On the same arguments the modulation and its reference leave the same result. -/
theorem algebraic_adaLn : Cert.algebraic_AdaLnIdeal_AdaLnReferenceIdeal := by
  intro m g m' g' _ hargs
  refine ⟨AdaLnIdeal.result m, AdaLnIdeal.run m g, (θ_run Cert.AdaLnReferenceIdeal.defs _ _).mono (fun r h c => ⟨(h c).1.trans ?_, (h c).2⟩)
    (Cert.AdaLnReferenceIdeal.Value.run (F := Ideal) m' g')⟩
  rw [Cert.AdaLnReferenceIdeal.Read.val_main_v6_eq]
  obtain ⟨e0, e1, e2⟩ := hargs c
  rw [e0, e1, e2]
  exact funext fun i => AdaLnReferenceIdeal.out_apply _ _ _ i

theorem claim : Cert.Claim :=
  ⟨Cert.Kernel.Gen.facts, Cert.KernelIdeal.Gen.facts, Cert.ReferenceIdeal.Gen.facts,
    Cert.InProj.Gen.facts, Cert.InProjIdeal.Gen.facts, Cert.InProjReferenceIdeal.Gen.facts,
    Cert.MixOut.Gen.facts, Cert.MixOutIdeal.Gen.facts, Cert.MixOutReferenceIdeal.Gen.facts,
    Cert.AdaLn.Gen.facts, Cert.AdaLnIdeal.Gen.facts, Cert.AdaLnReferenceIdeal.Gen.facts,
    fun m ρ _ => Kernel.quiescent m ρ, fun m ρ _ => KernelIdeal.quiescent m ρ, frame_r,
    fun m ρ _ => Cert.InProj.Gen.frame m ρ, fun m ρ _ => Cert.InProjIdeal.Gen.frame m ρ, frame_inProj_r,
    fun m ρ _ => Cert.MixOut.Gen.frame m ρ, fun m ρ _ => Cert.MixOutIdeal.Gen.frame m ρ, frame_mixOut_r,
    fun m ρ _ => Cert.AdaLn.Gen.frame m ρ, fun m ρ _ => Cert.AdaLnIdeal.Gen.frame m ρ, frame_adaLn_r,
    trivial, algebraic, trivial, algebraic_inProj, trivial, algebraic_mixOut,
    trivial, algebraic_adaLn⟩

end Cert.Proof
